-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 1024]⟩ ⟨2, ![256, 2048]⟩ (Layout.meshBlock [2, 4, 4] ![[], [0]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1024 : Shape := ⟨2, ![256, 1024]⟩
abbrev S256x8 : Shape := ⟨2, ![256, 8]⟩
abbrev S_ : Shape := ⟨0, ![]⟩
abbrev S256 : Shape := ⟨1, ![256]⟩
abbrev S256x1 : Shape := ⟨2, ![256, 1]⟩
abbrev S256x16 : Shape := ⟨2, ![256, 16]⟩

abbrev nBuf : Space → Nat
  | .hbm => 2
  | .vmem => 4
  | .smem => 0
  | _ => 0

abbrev bufTy : (tb : Table) → Fin (tcTables nBuf tb) → BufTy
  | .hbm, ⟨0, _⟩ => ⟨S256x1024, .bf16⟩
  | .hbm, ⟨1, _⟩ => ⟨S256x8, .f32⟩
  | .local _ .vmem, ⟨0, _⟩ => ⟨S256x1024, .bf16⟩
  | .local _ .vmem, ⟨1, _⟩ => ⟨S256x8, .f32⟩
  | .local _ .vmem, ⟨2, _⟩ => ⟨S256x8, .f32⟩
  | .local _ .vmem, ⟨3, _⟩ => ⟨S256x8, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_34 : BitVec 32 := 16#32
  let v105 : BitVec 32 := Scalar.muli v9 c16_i32_34
  let v106 : BitVec 32 := Scalar.addi c0_i32 v105
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_35 : BitVec 32 := 4#32
  let v107 : BitVec 32 := Scalar.muli v5 c4_i32_35
  let v108 : BitVec 32 := Scalar.addi v106 v107
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_36 : BitVec 32 := 1#32
  let v109 : BitVec 32 := Scalar.muli v8 c1_i32_36
  let v110 : BitVec 32 := Scalar.addi v108 v109
  v110.toNat
def k0_dev2 (d0 : Dev nD) : Nat :=
  let c0_i32_39 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_38 : BitVec 32 := 16#32
  let v111 : BitVec 32 := Scalar.muli v9 c16_i32_38
  let v112 : BitVec 32 := Scalar.addi c0_i32_39 v111
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_40 : BitVec 32 := 4#32
  let v113 : BitVec 32 := Scalar.muli v5 c4_i32_40
  let v114 : BitVec 32 := Scalar.addi v112 v113
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v115 : BitVec 32 := Scalar.muli v8 c1_i32_41
  let v116 : BitVec 32 := Scalar.addi v114 v115
  v116.toNat
abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S256x2048 : Shape := ⟨2, ![256, 2048]⟩
abbrev S256x8 : Shape := ⟨2, ![256, 8]⟩
abbrev S_ : Shape := ⟨0, ![]⟩
abbrev S256x8x1 : Shape := ⟨3, ![256, 8, 1]⟩
abbrev S1 : Shape := ⟨1, ![1]⟩
abbrev S1x1x1 : Shape := ⟨3, ![1, 1, 1]⟩

abbrev nBuf : Space → Nat
  | .hbm => 29
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x2048, .f32⟩
  | .hbm, ⟨2, _⟩ => ⟨S256x2048, .f32⟩
  | .hbm, ⟨3, _⟩ => ⟨S256x2048, .i32⟩
  | .hbm, ⟨4, _⟩ => ⟨S256x2048, .f32⟩
  | .hbm, ⟨5, _⟩ => ⟨S256x2048, .i32⟩
  | .hbm, ⟨6, _⟩ => ⟨S256x8, .i32⟩
  | .hbm, ⟨7, _⟩ => ⟨S_, .i32⟩
  | .hbm, ⟨8, _⟩ => ⟨S256x8, .i32⟩
  | .hbm, ⟨9, _⟩ => ⟨S256x8, .i1⟩
  | .hbm, ⟨10, _⟩ => ⟨S_, .i32⟩
  | .hbm, ⟨11, _⟩ => ⟨S256x8, .i32⟩
  | .hbm, ⟨12, _⟩ => ⟨S256x8, .i32⟩
  | .hbm, ⟨13, _⟩ => ⟨S256x8, .i32⟩
  | .hbm, ⟨14, _⟩ => ⟨S256x8x1, .i32⟩
  | .hbm, ⟨15, _⟩ => ⟨S1, .i32⟩
  | .hbm, ⟨16, _⟩ => ⟨S_, .i32⟩
  | .hbm, ⟨17, _⟩ => ⟨S256x8x1, .i32⟩
  | .hbm, ⟨18, _⟩ => ⟨S256x8x1, .i1⟩
  | .hbm, ⟨19, _⟩ => ⟨S1x1x1, .i32⟩
  | .hbm, ⟨20, _⟩ => ⟨S256x8x1, .i32⟩
  | .hbm, ⟨21, _⟩ => ⟨S256x8x1, .i1⟩
  | .hbm, ⟨22, _⟩ => ⟨S256x8x1, .i1⟩
  | .hbm, ⟨23, _⟩ => ⟨S_, .i1⟩
  | .hbm, ⟨24, _⟩ => ⟨S256x8, .i1⟩
  | .hbm, ⟨25, _⟩ => ⟨S256x8, .f32⟩
  | .hbm, ⟨26, _⟩ => ⟨S_, .f32⟩
  | .hbm, ⟨27, _⟩ => ⟨S256x8, .f32⟩
  | .hbm, ⟨28, _⟩ => ⟨S256x8, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1_0 : Ref sig .tc := ⟨.hbm, 4, rfl⟩
abbrev main_v2 : Ref sig .tc := ⟨.hbm, 5, rfl⟩
abbrev main_v3 : Ref sig .tc := ⟨.hbm, 6, rfl⟩
abbrev main_call1_c : Ref sig .tc := ⟨.hbm, 7, rfl⟩
abbrev main_call1_v0 : Ref sig .tc := ⟨.hbm, 8, rfl⟩
abbrev main_call1_v1 : Ref sig .tc := ⟨.hbm, 9, rfl⟩
abbrev main_call1_c_0 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_c_1 : Ref sig .tc := ⟨.hbm, 15, rfl⟩
abbrev main_call1_c_2 : Ref sig .tc := ⟨.hbm, 16, rfl⟩
abbrev main_call1_v6 : Ref sig .tc := ⟨.hbm, 17, rfl⟩
abbrev main_call1_v7 : Ref sig .tc := ⟨.hbm, 18, rfl⟩
abbrev main_call1_v8 : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_3 : Ref sig .tc := ⟨.hbm, 23, rfl⟩
abbrev main_call1_v12 : Ref sig .tc := ⟨.hbm, 24, rfl⟩
abbrev main_call1_v13 : Ref sig .tc := ⟨.hbm, 25, rfl⟩
abbrev main_call1_cst : Ref sig .tc := ⟨.hbm, 26, rfl⟩
abbrev main_call1_v14 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.Compute.lean ====
/-
What one device computes, as two functions of the values it reads: the eight columns it selects from its own block
of `x`, and the eight columns it selects from two such sets of candidates. Both are put together from the generated
payloads in the order in which the body binds them, over any float values.
-/
module

public import proofs.«01_k».proof.Proof.Gen.KernelIdeal
public import proofs.«01_k».proof.Proof.Gen.KernelIdeal.Skeleton

@[expose] public section

noncomputable section

namespace Cert.TopK

open Cert.KernelIdeal Cert.KernelIdeal.Gen
open Idealize.ShloMosaic

variable {F : FTy → Type} [FloatOps F]

/-- The column numbers of a block of 256 rows and 1024 columns. -/
abbrev cols1024 : IVec S256x1024 32 := iota .tc S256x1024 32 [1] iota_S256x1024_d1_w32

/-- The column numbers of 256 rows of 16 candidates. -/
abbrev cols16 : IVec S256x16 32 := iota .tc S256x16 32 [1] iota_S256x16_d1_w32

/-- The candidates of a device: the eight columns the body stores into its send buffer, of its block `x`. -/
def candidates (x : Vec F S256x1024 .bf16) : Vec F S256x8 .f32 :=
  k0_pay16 cols1024 (k0_pay3 x) (k0_pay5 x) (k0_pay7 x)
    (k0_pay10 cols1024 (k0_pay6 x) (k0_pay8 x)) (k0_pay12 cols1024 (k0_pay6 x) (k0_pay8 x))
    (k0_pay14 cols1024 (k0_pay6 x) (k0_pay8 x)) (k0_pay15 cols1024 (k0_pay6 x) (k0_pay8 x))

/-- The result of a device: the eight columns the body stores into its output, of its own candidates `a` and its
    peer's candidates `b`. -/
def merged (a b : Vec F S256x8 .f32) : Vec F S256x8 .f32 :=
  k0_pay1 cols16 (k0_pay18 a b) (k0_pay20 a b) (k0_pay22 a b)
    (k0_pay25 (k0_pay21 a b) (k0_pay23 a b) (Scalar.ofBits .f32 0xFF800000#32))
    (k0_pay27 cols16 (k0_pay21 a b) (k0_pay23 a b) (Scalar.ofBits .f32 0xFF800000#32))
    (k0_pay29 cols16 (k0_pay21 a b) (k0_pay23 a b) (Scalar.ofBits .f32 0xFF800000#32))
    (k0_pay30 cols16 (k0_pay21 a b) (k0_pay23 a b) (Scalar.ofBits .f32 0xFF800000#32))
    (k0_pay31 cols16 (k0_pay21 a b) (k0_pay23 a b) (Scalar.ofBits .f32 0xFF800000#32))
    (k0_pay32 cols16 (k0_pay21 a b) (k0_pay23 a b) (Scalar.ofBits .f32 0xFF800000#32))

end Cert.TopK

end
-- ==== Proof.Protocol.lean ====
/-
The protocol of the exchange. The mesh is 2 × 4 × 4, and a device talks to one other, its peer: the device with the
other `x` coordinate and the same `y` and `z`. Each device has three semaphores in play, and each is raised once:

- its READY semaphore (the barrier semaphore) by its peer, which thereby lends out its own receive buffer;
- its SENT semaphore by the copy it sends, which gives back its send buffer;
- its COME semaphore by the copy its peer sends, which fills its receive buffer with the peer's candidates.

The module states the three cells of a device once, as a function of their role, and derives the schedule, the dues
at launch and the order of the waits from it.
-/
module

public import proofs.«01_k».proof.Proof.Compute
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.TopK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: one part for the staging copies, one for the exchange. -/
abbrev Ghost : Type := UR sig nD τ × UR sig nD τ

local notation "𝕄" => MT nD τ sig Unit (Elt F) ℕ Ghost ℕ

/-- Where the staging copies' part lies. -/
abbrev staging : Emb (UR sig nD τ) (MT nD τ sig Unit (Elt F) ℕ Ghost ℕ) := embL
/-- Where the exchange's part lies. -/
abbrev swapping : Emb (UR sig nD τ) (MT nD τ sig Unit (Elt F) ℕ Ghost ℕ) := embR

/-! ## The peer -/

/-- The device with the other `x` coordinate: device `16 x + 4 y + z` is sixteen away from it. -/
def peer (c : Dev nD) : Dev nD := ⟨(c.val + 16) % 32, Nat.mod_lt _ (by decide)⟩

theorem peer_peer : ∀ c : Dev nD, peer (peer c) = c := by decide

/-- The device the body signals is the peer. -/
theorem signalled (c : Dev nD) : (⟨k0_dev1 c, k0_dev1_lt c⟩ : Dev nD) = peer c :=
  Fin.ext ((k0_dev1_eq c).trans (by revert c; decide))

/-- The device the body copies to is the peer. -/
theorem copiedTo (c : Dev nD) : (⟨k0_dev2 c, k0_dev2_lt c⟩ : Dev nD) = peer c :=
  Fin.ext ((k0_dev2_eq c).trans (by revert c; decide))

/-! ## The cells -/

/-- The roles of a device's three cells. -/
inductive Role where
  | ready
  | sent
  | come
  deriving DecidableEq

instance : Fintype Role := ⟨{.ready, .sent, .come}, fun k => by cases k <;> decide⟩

/-- The semaphore of a role. -/
abbrev semOf : Role → SemLoc sig
  | .ready => .reg (SemArray.scalar (sig.barrier 0 rfl) : Sems sig S_).sem
  | .sent => .dma (cc0_scratch2 : DmaSems sig S_).sem
  | .come => .dma (cc0_scratch3 : DmaSems sig S_).sem

/-- The role of a semaphore, if it is one of the three. -/
def roleOf (s : SemLoc sig) : Option Role :=
  if s = semOf .ready then some .ready else if s = semOf .sent then some .sent
  else if s = semOf .come then some .come else none

theorem roleOf_semOf : ∀ k, roleOf (semOf k) = some k := by decide

/-- A device's cell of a role. -/
abbrev cell (ck : Dev nD × Role) : GSem nD τ sig := ((ck.1 : Thread nD τ), semOf ck.2)

theorem cell_injective : Function.Injective cell := by
  rintro ⟨c, k⟩ ⟨c', k'⟩ h
  have hk : some k = some k' := by
    rw [← roleOf_semOf, ← roleOf_semOf]; exact congrArg (fun g : GSem nD τ sig => roleOf g.2) h
  exact Prod.ext (congrArg (fun g : GSem nD τ sig => g.1.1) h) (Option.some.inj hk)

/-- The device whose cell of a role a device pays: its own sent cell, its peer's ready and come cells. -/
def payee : Role → Dev nD → Dev nD
  | .sent, c => c
  | _, c => peer c

theorem payee_payee : ∀ k c, payee k (payee k c) = c
  | .ready, c => peer_peer c
  | .sent, _ => rfl
  | .come, c => peer_peer c

/-- The credit of one copy of a send buffer. -/
abbrev copyUnits : ℕ := (Memref.whole cc0_scratch1 : Memref sig .tc .vmem S256x8 .f32).view.dmaCredit

theorem copyUnits_pos : 0 < copyUnits := View.dmaCredit_pos _ (by decide)

/-- What raises a cell raises it by: one for the signal, a copy's credit for the copies. -/
def unitsOf : Role → ℕ
  | .ready => 1
  | _ => copyUnits

theorem unitsOf_pos : ∀ k, 0 < unitsOf k
  | .ready => Nat.one_pos
  | .sent => copyUnits_pos
  | .come => copyUnits_pos

/-! ## What the buffers hold -/

variable (m : (ℓ : Loc nD τ sig) → Buf (Elt F) ℓ)

/-- The block of `x` a device finds in its staging buffer. -/
def block (c : Dev nD) : (cc0_stg0_0 : Ref sig .tc).ty.Contents (Elt F) :=
  (win0_0.blk (0 : Fin 1)).view.read (Elt F) (m ((c : Thread nD τ).loc main_arg0))

/-- A device's candidates. -/
def mine (c : Dev nD) : Vec F S256x8 .f32 := candidates (block m c)

/-- A device's result. -/
def result (c : Dev nD) : Vec F S256x8 .f32 := merged (mine m c) (mine m (peer c))

/-- A whole buffer of a device, held in full at given contents. -/
def held (b : Ref sig .tc) (c : Dev nD) (f : b.ty.Contents (Elt F)) : sProp 𝕄 :=
  (Memref.whole b).view.loc (c : Thread nD τ) ↦[(Memref.whole b).view.set]{fullShare} f

omit [FloatOps F] in
theorem held_eq (b : Ref sig .tc) (c : Dev nD) (f : b.ty.Contents (Elt F)) :
    held b c f = (((c : Thread nD τ).loc b) ↦{fullShare} f : sProp 𝕄) := by unfold held; rw [View.set_whole]

omit [FloatOps F] in
instance held_storable (b : Ref sig .tc) (c : Dev nD) (f : b.ty.Contents (Elt F)) :
    BI.Storable (upEmb : UEmb _ 𝕄) (held b c f) := by unfold held; infer_instance

/-! ## The schedule -/

/-- What a raise of a device's cell hands over: with READY the peer's receive buffer and the word that the peer's COME
    cell stands at its beginning; with SENT the send buffer; with COME the receive buffer full of the peer's candidates. -/
def pay (c : Dev nD) : Role → sProp 𝕄
  | .ready => iprop((∃ f, held cc0_scratch1 (peer c) f) ∗ reached swapping (cell (peer c, .come)) 0)
  | .sent => held cc0_scratch0 c (mine m c)
  | .come => held cc0_scratch1 c (mine m (peer c))

/-- What is handed over by role, nothing on other semaphores. -/
def payOf (c : Dev nD) : Option Role → sProp 𝕄
  | some k => pay m c k
  | none => iprop(emp)

instance payOf_storable (c : Dev nD) (k : Option Role) : BI.Storable (upEmb : UEmb _ 𝕄) (payOf m c k) := by
  rcases k with _ | (_ | _ | _) <;> unfold payOf <;> (try unfold pay) <;> infer_instance

/-- Each of the cells has one duty in round 0 and none later. -/
def schedule : Rounds.Schedule (GSem nD τ sig) Unit 𝕄 where
  duties g r := if r = 0 ∧ (roleOf g.2).isSome then {()} else ∅
  unitless _ := False
  amount g _ _ := unitsOf ((roleOf g.2).getD .ready)
  payload g _ _ := payOf m g.1.1 (roleOf g.2)
  amount_pos _ _ _ _ := unitsOf_pos _

instance schedule_storable (g : GSem nD τ sig) (r : ℕ) (d : Unit) :
    BI.Storable (upEmb : UEmb _ 𝕄) ((schedule (F := F) m).payload g r d) := payOf_storable m g.1.1 (roleOf g.2)

theorem duties_cell (ck : Dev nD × Role) : (schedule (F := F) m).duties (cell ck) 0 = {()} := by
  dsimp only [schedule]; rw [roleOf_semOf]; exact if_pos ⟨rfl, rfl⟩

theorem mem_duties (ck : Dev nD × Role) : () ∈ (schedule (F := F) m).duties (cell ck) 0 := by
  rw [duties_cell]; exact Finset.mem_singleton_self _

theorem duties_later (g : GSem nD τ sig) (r : ℕ) (hr : 1 ≤ r) : (schedule (F := F) m).duties g r = ∅ :=
  if_neg fun h => absurd (h.1 ▸ hr) (by decide)

theorem amount_cell (ck : Dev nD × Role) (u : Unit) : (schedule (F := F) m).amount (cell ck) 0 u = unitsOf ck.2 := by
  dsimp only [schedule]; rw [roleOf_semOf]; rfl

theorem expect_cell (ck : Dev nD × Role) : (schedule (F := F) m).expect (cell ck) 0 = unitsOf ck.2 := by
  unfold Schedule.expect Schedule.amountOf; rw [duties_cell, Finset.sum_singleton, amount_cell]

theorem payload_cell (ck : Dev nD × Role) (u : Unit) : (schedule (F := F) m).payload (cell ck) 0 u = pay m ck.1 ck.2 := by
  dsimp only [schedule]; rw [roleOf_semOf]; rfl

/-- All a cell's round hands over. -/
theorem round_cell (ck : Dev nD × Role) :
    bigSep ((schedule (F := F) m).duties (cell ck) 0 \ ∅) (fun u => (schedule (F := F) m).payload (cell ck) 0 u) = pay m ck.1 ck.2 := by
  rw [Finset.sdiff_empty, duties_cell, bigSep_singleton, payload_cell]

/-! ## Dues and levels -/

/-- A device owes its peer's COME cell one copy, -/
def copyDue (c : Dev nD) : CellTallies nD τ sig Unit := tallyAt (cell (peer c, .come)) () copyUnits
/-- and its peer's READY cell one signal. -/
def signalDue (c : Dev nD) : CellTallies nD τ sig Unit := tallyAt (cell (peer c, .ready)) () 1
/-- What a device owes at launch. -/
def dues (c : Dev nD) : CellTallies nD τ sig Unit := copyDue c + signalDue c

/-- The cells that have levels: those of the devices' main threads. -/
def levelled (g : GSem nD τ sig) : Finset Unit := if g.1.2 = .tc then {()} else ∅

/-- The order of the waits: the staging and SENT semaphores, then READY, then COME. -/
def rank (s : SemLoc sig) : ℕ := match roleOf s with
  | some .ready => 1
  | some .come => 2
  | _ => 0

/-- The level of a cell is the rank of its semaphore. -/
abbrev level (g : GSem nD τ sig) (_ : Unit) : ℕ := rank g.2

theorem levelled_tc (c : Dev nD) (s : SemLoc sig) : levelled ((c : Thread nD τ), s) = {()} := if_pos rfl
theorem levelled_other (g : GSem nD τ sig) (h : g.1.2 ≠ .tc) : levelled g = ∅ := if_neg h

omit [FloatOps F] in
/-- A device may wait on a semaphore ranked below every cell it still owes. -/
theorem mayWait_below (c : Dev nD) (s : SemLoc sig) (O : CellTallies nD τ sig Unit)
    (h : ∀ g u, 0 < O g u → ∃ d k, g = cell (d, k) ∧ rank s < rank (semOf k)) :
    (levAts levelled level : sProp 𝕄) ⊢ MayWait (c : Thread nD τ) s () O :=
  Pipeline.mayWait_of_levAts (by rw [levelled_tc]; exact Finset.mem_singleton_self _) fun g u hg => by
    obtain ⟨d, k, rfl, hk⟩ := h g u hg
    exact ⟨by rw [levelled_tc]; exact Finset.mem_singleton_self _, hk⟩

omit [FloatOps F] in
/-- While it owes the copy, a device may wait on what is ranked below COME. -/
theorem mayWait_copyDue (c : Dev nD) (s : SemLoc sig) (hs : rank s < 2) :
    (levAts levelled level : sProp 𝕄) ⊢ MayWait (c : Thread nD τ) s () (copyDue c) :=
  mayWait_below c s _ fun g u hg => ⟨peer c, .come, (Pipeline.tallyAt_pos hg).1, hs.trans_eq (by decide)⟩

omit [FloatOps F] in
/-- While it owes the copy and the signal, a device may wait on what is ranked lowest. -/
theorem mayWait_dues (c : Dev nD) (s : SemLoc sig) (hs : rank s < 1) :
    (levAts levelled level : sProp 𝕄) ⊢ MayWait (c : Thread nD τ) s () (dues c) :=
  mayWait_below c s _ fun g u hg => by
    rcases Pipeline.add_pos_cases hg with h | h
    · exact ⟨peer c, .come, (Pipeline.tallyAt_pos h).1, hs.trans (by decide)⟩
    · exact ⟨peer c, .ready, (Pipeline.tallyAt_pos h).1, hs.trans_eq (by decide)⟩

omit [FloatOps F] in
/-- The launch deals a device the credit for its two waits on its peer. -/
theorem dealt (c : Dev nD) :
    (Pipeline.launchCred dues c : sProp 𝕄)
      ⊢ iprop(cred (tallyAt (cell (c, .come)) () copyUnits) ∗ cred (tallyAt (cell (c, .ready)) () 1)) :=
  (Entails.of_eq (Pipeline.launchCred_add copyDue signalDue c)).trans
    (BI.sep_mono (Pipeline.launchCred_tallyAt (semOf .come) peer peer peer_peer peer_peer () copyUnits c)
      (Pipeline.launchCred_tallyAt (semOf .ready) peer peer peer_peer peer_peer () 1 c))

end Cert.TopK

end
-- ==== Proof.Body.lean ====
/-
One device's run of the body: it selects its candidates, lends its receive buffer to its peer, sends the candidates to
the peer's receive buffer, and selects from its own and the received candidates.
-/
module

public import proofs.«01_k».proof.Proof.Protocol

@[expose] public section

noncomputable section

namespace Cert.TopK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ Ghost ℕ

variable (m : (ℓ : Loc nD τ sig) → Buf (Elt F) ℓ)

/-! ## What a device holds before and after -/

/-- What every device knows: each cell's invariant, and that each cell has reached round 0. -/
def known (K : Dev nD × Role → ℕ) : sProp 𝕄 :=
  iprop((bigSep Finset.univ fun ck => cellInv swapping (schedule m) (K ck) (cell ck))
    ∗ bigSep Finset.univ fun ck => reached swapping (cell ck) 0)

instance known_persistent (K : Dev nD × Role → ℕ) : BI.Persistent (known m K) := by unfold known; infer_instance

omit [FloatOps F] in
/-- One of a conjunction over all cells. -/
theorem each (Φ : Dev nD × Role → sProp 𝕄) (ck : Dev nD × Role) : bigSep Finset.univ Φ ⊢ Φ ck :=
  BI.bigSep_elim (Finset.mem_univ ck)

theorem known_inv (K : Dev nD × Role → ℕ) (ck : Dev nD × Role) :
    known m K ⊢ cellInv swapping (schedule m) (K ck) (cell ck) := by
  unfold known; iintro ⟨H, -⟩;
  iapply (each (fun ck => cellInv swapping (schedule m) (K ck) (cell ck)) ck); iexact H

theorem known_reached (K : Dev nD × Role → ℕ) (ck : Dev nD × Role) :
    known m K ⊢ (reached swapping (cell ck) 0 : sProp 𝕄) := by
  unfold known; iintro ⟨-, H⟩;
  iapply (each (fun ck => reached swapping (cell ck) 0) ck); iexact H

/-- What is a device's alone: its place at the beginning of its cells, and the right to pay the three cells it pays. -/
def own (c : Dev nD) : sProp 𝕄 :=
  iprop((bigSep Finset.univ fun k => atPos swapping (cell (c, k)) 0 ∅ 0)
    ∗ bigSep Finset.univ fun k => dutyTok swapping (cell (payee k c, k)) 0 ())

/-- What the launch deals a device. -/
def lot (c : Dev nD) : sProp 𝕄 := iprop(∃ K, known m K ∗ own c)

/-- A device at the start: its lot, the credit for its two waits on its peer, the levels. -/
def start (c : Dev nD) : sProp 𝕄 :=
  iprop(lot m c ∗ (cred (tallyAt (cell (c, .come)) () copyUnits) ∗ cred (tallyAt (cell (c, .ready)) () 1))
    ∗ levAts levelled level)

/-- A buffer at some contents. -/
def anyOf (b : Ref sig .tc) (c : Dev nD) : sProp 𝕄 := iprop(∃ f, held b c f)

/-- Before the body: the start, and both scratch buffers at some contents. -/
def atStart (c : Dev nD) : sProp 𝕄 := iprop(start m c ∗ anyOf cc0_scratch0 c ∗ anyOf cc0_scratch1 c)

/-- After the body: both scratch buffers at some contents, and the three counters at zero. -/
def atEnd (c : Dev nD) : sProp 𝕄 :=
  iprop((anyOf cc0_scratch0 c ∗ anyOf cc0_scratch1 c) ∗ bigSep Finset.univ fun k => semVal (cell (c, k)) 0)

/-- The one pipeline's data: its block of `x` is read, its result is written, the dues at launch are paid. -/
def dats (_ : Fin 1) (c : Dev nD) : Dat τ (Elt F) Unit ℕ Ghost ℕ cfg0 c where
  A w := m ((cfg0.win w).arr.view.loc (c : Thread nD τ))
  after w _ := match w with
    | ⟨0, _⟩ => block m c
    | ⟨1, _⟩ => result m c
  Φ t := match t with
    | ⟨0, _⟩ => atStart m c
    | ⟨_ + 1, _⟩ => atEnd c
  q _ := fullShare
  owed t := match t with
    | ⟨0, _⟩ => dues c
    | ⟨_ + 1, _⟩ => 0

/-! ## The copy -/

/-- A conjunction over the three roles, one by one. -/
theorem over_roles {M : Type} [URA M] (Φ : Role → sProp M) :
    bigSep Finset.univ Φ = iprop(Φ Role.ready ∗ Φ .sent ∗ Φ .come) :=
  bigSep_univ_eq_bigSepL [Role.ready, Role.sent, Role.come] (by decide) (by decide) Φ

variable (K : Dev nD × Role → ℕ)

/-- Sending the candidates: the device gives up its send buffer and the peer's receive buffer, pays its due, and gets
    the credit for its wait on its SENT cell. -/
theorem send (c n : Dev nD) (hn : n = peer c)
    {hsc : (Memref.whole cc0_scratch1 : Memref sig (Dev.tc n : Thread nD τ).2.kind .vmem S256x8 .f32).view.ref.isScScratch = false}
    {hsrc : (Memref.whole cc0_scratch0 : Memref sig .tc .vmem S256x8 .f32).view.WordExact}
    {hdst : (Memref.whole cc0_scratch1 : Memref sig .tc .vmem S256x8 .f32).view.WordExact}
    {hsem : DmaTarget.Typed .vmem (semOf .come)
      (.remote (Dev.tc n : Thread nD τ) (Memref.whole cc0_scratch1 : Memref sig .tc .vmem S256x8 .f32) (semOf .sent) hsc)}
    {α : Type} {Q : α → sProp 𝕄} {k : PUnit → Prog (TpuEff nD τ sig (Elt F) Λ₀ .tc) α}
    (f : (cc0_scratch1 : Ref sig .tc).ty.Contents (Elt F)) (W : Waits sig Unit) :
    iprop(known m K ∗ held cc0_scratch0 c (mine m c) ∗ held cc0_scratch1 (peer c) f ∗ owes (c : Thread nD τ) (copyDue c) W
        ∗ dutyTok swapping (cell (c, .sent)) 0 () ∗ dutyTok swapping (cell (peer c, .come)) 0 ())
      ⊢ iprop(((cred (tallyAt (cell (c, .sent)) () copyUnits) ∗ owes (c : Thread nD τ) 0 W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (Memref.whole cc0_scratch0) (.remote (Dev.tc n : Thread nD τ) (Memref.whole cc0_scratch1) (semOf .sent) hsc)
                (semOf .come) hsrc hdst hsem) k) Q) := by
  subst hn
  iintro ⟨#Hk, Hs, Hr, HO, HtS, HtC⟩
  unfold held
  iapply (Rounds.wp_send_pointsTo Variants.none swapping (schedule m) (c : Thread nD τ) none
    (κ₁ := K (c, .sent)) (κ₂ := K (peer c, .come)) (r₁ := 0) (r₂ := 0) (d₁ := ()) (d₂ := ()) (q := fullShare) (fs := mine m c) (fd := f)
    (mem_duties m (c, .sent)) (mem_duties m (peer c, .come)) () () copyUnits rfl (amount_cell m (c, .sent) ()) (amount_cell m (peer c, .come) ())
    0 (by rw [zero_add]) (W := W)
    (by rw [payload_cell m (c, .sent)]; exact BI.Entails.refl _)
    (by
      rw [payload_cell m (peer c, .come)]
      refine Entails.of_eq (show held cc0_scratch1 (peer c) _ = held cc0_scratch1 (peer c) (mine m (peer (peer c))) from congrArg _ ?_)
      rw [peer_peer]
      exact View.write_whole_univ _ _ _))
  isplitr; · iapply (known_inv m K); iexact Hk
  isplitr; · iapply (known_inv m K); iexact Hk
  isplitl [Hs]; · iexact Hs
  isplitl [Hr]; · iexact Hr
  isplitl [HO]; · iexact HO
  isplitl [HtS]; · iexact HtS
  isplitr; · iapply (known_reached m K (c, .sent)); iexact Hk
  isplitl [HtC]; · iexact HtC
  iapply (known_reached m K (peer c, .come)); iexact Hk

/-! ## The body -/

omit [FloatOps F] in
theorem zeros : (![0, 0] : Fin 2 → ℕ) = fun _ => 0 := funext fun a => by fin_cases a <;> rfl

/-- All of a block of `x`, and all of a set of candidates, as the body addresses them. -/
abbrev allX : Rect S256x1024 := Rect.unit (s := S256x1024) ![0, 0] S256x1024.size inb_S256x1024_S256x1024_0_0
abbrev all8 : Rect S256x8 := Rect.unit (s := S256x8) ![0, 0] S256x8.size inb_S256x8_S256x8_0_0

omit [FloatOps F] in
/-- Loading all of the block reads what is there. -/
theorem load_x (f : (cc0_stg0_0 : Ref sig .tc).ty.Contents (Elt F)) :
    (Memref.whole cc0_stg0_0 : Memref sig .tc .vmem S256x1024 .bf16).view.readAt (Elt F) allX.toLoadRect f = f :=
  Memref.readAt_unit_zero (Elt F) cc0_stg0_0 zeros _ f

omit [FloatOps F] in
/-- Loading all of the send buffer reads what is there, -/
theorem load_send (f : (cc0_scratch0 : Ref sig .tc).ty.Contents (Elt F)) :
    (Memref.whole cc0_scratch0 : Memref sig .tc .vmem S256x8 .f32).view.readAt (Elt F) all8.toLoadRect f = f :=
  Memref.readAt_unit_zero (Elt F) cc0_scratch0 zeros _ f

omit [FloatOps F] in
/-- and so does loading all of the receive buffer. -/
theorem load_recv (f : (cc0_scratch1 : Ref sig .tc).ty.Contents (Elt F)) :
    (Memref.whole cc0_scratch1 : Memref sig .tc .vmem S256x8 .f32).view.readAt (Elt F) all8.toLoadRect f = f :=
  Memref.readAt_unit_zero (Elt F) cc0_scratch1 zeros _ f

omit [FloatOps F] in
/-- Storing all of the send buffer leaves what is stored, -/
theorem store_send (f w : (cc0_scratch0 : Ref sig .tc).ty.Contents (Elt F)) :
    ((Memref.whole cc0_scratch0 : Memref sig .tc .vmem S256x8 .f32).access all8 : View sig .tc _ _ _).write (Elt F) f w Finset.univ = w :=
  Memref.write_access_unit_zero_univ (Elt F) cc0_scratch0 zeros _ f w

omit [FloatOps F] in
/-- and so does storing all of the output. -/
theorem store_out (f w : (cc0_stg1_0 : Ref sig .tc).ty.Contents (Elt F)) :
    ((Memref.whole cc0_stg1_0 : Memref sig .tc .vmem S256x8 .f32).access all8 : View sig .tc _ _ _).write (Elt F) f w Finset.univ = w :=
  Memref.write_access_unit_zero_univ (Elt F) cc0_stg1_0 zeros _ f w

/-- A staging buffer at contents known to be `X`. -/
abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the body is given. -/
def bodyPre (c : Dev nD) : sProp 𝕄 :=
  iprop(atStart m c ∗ (dats m 0 c).owesAt () t0_0.castSucc
    ∗ (∃ d, staged c cc0_stg0_0 ((dats m 0 c).before (0 : Fin 2) t0_0 d))
    ∗ (∃ d, staged c cc0_stg1_0 ((dats m 0 c).before (1 : Fin 2) t0_0 d)))

/-- What the body leaves. -/
def bodyPost (c : Dev nD) : sProp 𝕄 :=
  iprop(atEnd c ∗ (dats m 0 c).owesAt () t0_0.succ ∗ staged c cc0_stg0_0 (block m c) ∗ staged c cc0_stg1_0 (result m c))

set_option maxHeartbeats 1600000 in
/-- The body, from what it is given to what it leaves. -/
theorem run_body (c : Dev nD) (Q : PUnit → sProp 𝕄) :
    iprop(bodyPre m c ∗ (bodyPost m c -∗ Q ⟨⟩))
      ⊢ wp frame (wpE (defs₀ (F := F)) Variants.none c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3) Q := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold bodyPre atStart start lot own anyOf
  rw [over_roles, over_roles]
  iintro ⟨⟨⟨⟨⟨%K, #Hk, ⟨HaR, HaS, HaC⟩, HtR, HtS, HtC⟩, ⟨HcC, HcR⟩, #Hlev⟩, ⟨%fs, Hs⟩, %fr, Hr⟩, Ho, ⟨%d0, %g0, %hg0, Hx⟩, ⟨%d1, %g1, %hg1, Hout⟩⟩, Hq⟩
  have hx : g0 = block m c := by rw [hg0]; unfold Dat.before; rw [if_pos (show (cfg0.win (0 : Fin 2)).fetch t0_0 = true from rfl)]; rfl
  subst hx
  unfold Dat.owesAt Pipeline.owesWithin
  icases Ho with ⟨%W, %hW, HO⟩
  rw [show (dats m 0 c).owed t0_0.castSucc = dues c from rfl]
  simp only [signalled c]
  -- the candidates into the send buffer
  iapply (wp_load Variants.none (c : Thread nD τ) none Set.univ (m := Memref.whole cc0_stg0_0) (Finset.subset_univ _)) $$ Hx; iintro Hx
  rw [load_x]
  ihave Hs := (Entails.of_eq (held_eq cc0_scratch0 c fs)) $$ Hs
  iapply (wp_load Variants.none (c : Thread nD τ) none Set.univ (m := Memref.whole cc0_scratch0) (Finset.subset_univ _)) $$ Hs; iintro Hs
  iapply (wp_store Variants.none (c : Thread nD τ) none Set.univ (m := Memref.whole cc0_scratch0)
    (r := all8) (Mk := Finset.univ) (Finset.subset_univ _)) $$ Hs; iintro Hs
  rw [store_send]
  -- the signal lends out the receive buffer
  iapply (Rounds.wp_signal Variants.none swapping (schedule m) (c : Thread nD τ) none (dst := (peer c : Thread nD τ)) (κ := K (peer c, .ready))
      (mem_duties m (peer c, .ready)) (amount_cell m (peer c, .ready) ()) () (copyDue c) rfl) $$ [HO HtR Hr]
  · isplitr; · iapply (known_inv m K (peer c, .ready)); iexact Hk
    isplitl [HO]; · iexact HO
    isplitl [HtR]; · iexact HtR
    isplitl [Hr]
    · rw [payload_cell m (peer c, .ready)]; unfold pay; dsimp only; rw [peer_peer]
      isplitl [Hr]; · iexists fr; iexact Hr
      iapply (known_reached m K (c, .come)); iexact Hk
    · iapply (known_reached m K (peer c, .ready)); iexact Hk
  iintro HO
  -- the wait on READY brings the peer's receive buffer
  iapply (Rounds.wp_wait_rest_token Variants.none swapping (schedule m) (c : Thread nD τ) none (κ := K (c, .ready))
      (wpE_semWait_eq Variants.none (c : Thread nD τ) none Set.univ) (Set.mem_univ _) () (O := copyDue c) (W := W) (R := 0) (m := 0) (T := ∅)
      (by rw [Nat.zero_add, expect_cell m (c, .ready)]; rfl)) $$ [HcR HO HaR]
  · isplitr; · iapply (known_inv m K (c, .ready)); iexact Hk
    isplitl [HcR]; · iexact HcR
    isplitl [HO]; · iexact HO
    isplitr; · iapply (mayWait_copyDue c (semOf .ready) (by decide)); iexact Hlev
    iexact HaR
  iintro ⟨HO, HaR, -, Hpay⟩
  ihave Hpay := (Entails.of_eq (round_cell m (c, .ready))) $$ Hpay
  unfold pay
  icases Hpay with ⟨⟨%fp, Hp⟩, -⟩
  -- the copy
  iapply (send m K c _ (copiedTo c) fp _) $$ [Hs Hp HO HtS HtC]
  · isplitr; · iexact Hk
    isplitl [Hs]; · rw [held_eq]; iexact Hs
    isplitl [Hp]; · iexact Hp
    isplitl [HO]; · iexact HO
    isplitl [HtS]; · iexact HtS
    iexact HtC
  iintro ⟨HcS, HO⟩
  -- the waits on SENT and COME
  iapply (Rounds.wp_wait_rest_token Variants.none swapping (schedule m) (c : Thread nD τ) none (κ := K (c, .sent))
      (wpE_waitDma2_eq Variants.none (c : Thread nD τ) none Set.univ) (Set.mem_univ _) () (O := 0) (R := 0) (m := 0) (T := ∅)
      (by rw [Nat.zero_add, expect_cell m (c, .sent)]; rfl)) $$ [HcS HO HaS]
  · isplitr; · iapply (known_inv m K (c, .sent)); iexact Hk
    isplitl [HcS]; · iexact HcS
    isplitl [HO]; · iexact HO
    isplitr; · rw [MayWait_zero]; iempintro
    iexact HaS
  iintro ⟨HO, HaS, -, Hpay⟩
  ihave Hs := (Entails.of_eq ((round_cell m (c, .sent)).trans (held_eq cc0_scratch0 c (mine m c)))) $$ Hpay
  iapply (Rounds.wp_wait_rest_token Variants.none swapping (schedule m) (c : Thread nD τ) none (κ := K (c, .come))
      (wpE_waitDma2_eq Variants.none (c : Thread nD τ) none Set.univ) (Set.mem_univ _) () (O := 0) (R := 0) (m := 0) (T := ∅)
      (by rw [Nat.zero_add, expect_cell m (c, .come)]; rfl)) $$ [HcC HO HaC]
  · isplitr; · iapply (known_inv m K (c, .come)); iexact Hk
    isplitl [HcC]; · iexact HcC
    isplitl [HO]; · iexact HO
    isplitr; · rw [MayWait_zero]; iempintro
    iexact HaC
  iintro ⟨HO, HaC, -, Hpay⟩
  ihave Hr := (Entails.of_eq ((round_cell m (c, .come)).trans (held_eq cc0_scratch1 c (mine m (peer c))))) $$ Hpay
  -- the selection from both sets of candidates
  iapply (wp_load Variants.none (c : Thread nD τ) none Set.univ (m := Memref.whole cc0_scratch0) (Finset.subset_univ _)) $$ Hs; iintro Hs
  rw [load_send]
  iapply (wp_load Variants.none (c : Thread nD τ) none Set.univ (m := Memref.whole cc0_scratch1) (Finset.subset_univ _)) $$ Hr; iintro Hr
  rw [load_recv]
  iapply (wp_load Variants.none (c : Thread nD τ) none Set.univ (m := Memref.whole cc0_stg1_0) (Finset.subset_univ _)) $$ Hout; iintro Hout
  iapply (wp_store Variants.none (c : Thread nD τ) none Set.univ (m := Memref.whole cc0_stg1_0)
    (r := all8) (Mk := Finset.univ) (Finset.subset_univ _)) $$ Hout; iintro Hout
  rw [store_out, wp_ret]
  -- the cells are over
  imod (Rounds.cell_close swapping (schedule m) (Set.mem_univ (K (c, .ready))) (fun h => h) (R := 0 + 1) (duties_later m (cell (c, .ready)))) $$ [HaR] with HzR
  · isplitr; · iapply (known_inv m K (c, .ready)); iexact Hk
    iexact HaR
  imod (Rounds.cell_close swapping (schedule m) (Set.mem_univ (K (c, .sent))) (fun h => h) (R := 0 + 1) (duties_later m (cell (c, .sent)))) $$ [HaS] with HzS
  · isplitr; · iapply (known_inv m K (c, .sent)); iexact Hk
    iexact HaS
  imod (Rounds.cell_close swapping (schedule m) (Set.mem_univ (K (c, .come))) (fun h => h) (R := 0 + 1) (duties_later m (cell (c, .come)))) $$ [HaC] with HzC
  · isplitr; · iapply (known_inv m K (c, .come)); iexact Hk
    iexact HaC
  imodintro
  iapply Hq
  unfold bodyPost atEnd anyOf Dat.owesAt Pipeline.owesWithin
  rw [show (dats m 0 c).owed t0_0.succ = 0 from rfl, over_roles]
  isplitl [Hs Hr HzR HzS HzC]
  · isplitl [Hs Hr]
    · isplitl [Hs]
      · iexists (mine m c); rw [held_eq]; iexact Hs
      · iexists (mine m (peer c)); rw [held_eq]; iexact Hr
    isplitl [HzR]; · iexact HzR
    isplitl [HzS] <;> iassumption
  isplitl [HO]
  · iexists (insert (semOf .come, ()) (insert (semOf .sent, ()) (insert (semOf .ready, ()) W)))
    isplitr; · ipureintro; exact fun _ _ => Or.inl trivial
    iexact HO
  isplitl [Hx]
  · iexists _; isplitr; · ipureintro; rfl
    iexact Hx
  iexists _; isplitr; · ipureintro; rfl
  iexact Hout

/-- The body does what the pipeline asks of it. -/
theorem body_obligation (c : Dev nD) : BodyObligation (dats m 0 c) (defs₀ (F := F)) Variants.none () Set.univ := fun t => by
  rw [fin_N0 t, bigSep_W0, bigSep_W0]
  simp only [owns_whole_eq]
  show bodyPre m c ⊢ wp frame (wpE (defs₀ (F := F)) Variants.none c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      cc0_scratch2 cc0_scratch3) (fun _ => bodyPost m c)
  iintro H
  iapply (run_body m c fun _ => bodyPost m c)
  isplitl [H]; · iexact H
  iintro H; iexact H

end Cert.TopK

end
-- ==== Proof.Launch.lean ====
/-
The launch: the devices' semaphores become the protocol's cells, each device gets its lot, and every run of the kernel
ends with each device's result in place, `x` unchanged and every counter at zero.
-/
module

public import proofs.«01_k».proof.Proof.Body
public import Idealize.ShloMosaic.Lib.Pipeline.CollectiveSegs

@[expose] public section

noncomputable section

namespace Cert.TopK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ Ghost ℕ

variable (m : (ℓ : Loc nD τ sig) → Buf (Elt F) ℓ) (ρ : Dev nD → PrngReg)

/-! ## The ghost state at launch -/

/-- All cells of the exchange. -/
def allCells : Finset (GSem nD τ sig) := Finset.univ.map ⟨cell, cell_injective⟩

/-- The right to pay each of them once. -/
def allRights : Finset (GSem nD τ sig × ℕ × Unit) :=
  Finset.univ.map ⟨fun ck => (cell ck, 0, ()), fun _ _ h => cell_injective (congrArg Prod.fst h)⟩

/-- The ghost state the launch starts from. -/
def ghost₀ : Ghost := (initOf (Pipeline.cells cfgs cellOf_inj) (Pipeline.launchToks cfgs cellOf_inj), initOf allCells allRights)

/-- What a cell starts with: its state, its owner's place, that round 0 is reached, and the right to pay it. -/
def seed (ck : Dev nD × Role) : sProp 𝕄 :=
  iprop(roundState swapping (schedule m) (cell ck) 0 ∗ (atPos swapping (cell ck) 0 ∅ 0 ∗ reached swapping (cell ck) 0)
    ∗ dutyTok swapping (cell ck) 0 ())

/-- The exchange's ghost state is every cell's beginning. -/
theorem sow : BI.own (swapping (initOf allCells allRights)) ⊢ (|==> bigSep Finset.univ fun c => bigSep Finset.univ fun k => seed m (c, k) : sProp 𝕄) := by
  have hcells (Φ : GSem nD τ sig → sProp 𝕄) : bigSep allCells Φ = bigSep Finset.univ fun ck => Φ (cell ck) := bigSep_map _
  have hrights : bigSep allRights (fun x => (dutyTok swapping x.1 x.2.1 x.2.2 : sProp 𝕄)) = bigSep Finset.univ fun ck => dutyTok swapping (cell ck) 0 () :=
    bigSep_map _
  rw [← bigSep_univ_prod (seed m)]
  unfold seed
  simp only [bigSep_sep']
  iintro H
  imod (Rounds.fund swapping (schedule m) allCells allRights) $$ H with ⟨Hst, Hr, Hat, Htok⟩
  imodintro
  ihave Hst := (Entails.of_eq (hcells fun g => roundState swapping (schedule m) g 0)) $$ Hst
  ihave Hat := (Entails.of_eq (hcells fun g => atPos swapping g 0 ∅ 0)) $$ Hat
  ihave Hr := (Entails.of_eq (hcells fun g => reached swapping g 0)) $$ Hr
  ihave Htok := (Entails.of_eq hrights) $$ Htok
  isplitl [Hst]; · iexact Hst
  isplitl [Hat Hr]
  · isplitl [Hat] <;> iassumption
  iexact Htok

/-! ## From semaphores to cells -/

/-- The semaphores of the kernel's own: the two copies'. -/
abbrev ownSems : Fin 2 → SemLoc sig := fun | 0 => semOf .sent | 1 => semOf .come

theorem ownSemFacts : Pipeline.OwnSemFacts cfg0.spec ownSems := by decide

omit [FloatOps F] in
/-- A device's own semaphores and the barrier semaphore are the counters of its three cells. -/
theorem counters_eq (c : Dev nD) :
    iprop(Pipeline.ownSems0 (Ix := Unit) (Name := ℕ) (U := Ghost) (Lvl := ℕ) (Val := Elt F) (τ := τ) ownSems c ∗ unscopedSems0 c)
      = iprop((semVal (cell (c, .sent)) 0 ∗ semVal (cell (c, .come)) 0) ∗ (semVal (cell (c, .ready)) 0 : sProp 𝕄)) := by
  rw [Pipeline.ownSems0_eq_of_list c ownSems [0, 1] (by decide) (by decide)]
  unfold unscopedSems0; rw [bigSep_eq_bigSepL_of_eq [semOf .ready] (by decide) (by decide)]; rfl

omit [FloatOps F] in
/-- The same, cell by cell. -/
theorem counters (c : Dev nD) :
    iprop(Pipeline.ownSems0 (Ix := Unit) (Name := ℕ) (U := Ghost) (Lvl := ℕ) (Val := Elt F) (τ := τ) ownSems c ∗ unscopedSems0 c)
      = (bigSep Finset.univ fun k => semVal (cell (c, k)) 0 : sProp 𝕄) := by
  have turn (A B C : sProp 𝕄) : iprop((A ∗ B) ∗ C) = iprop(C ∗ A ∗ B) := by
    have h₁ : iprop((A ∗ B) ∗ C) ⊢ iprop(C ∗ A ∗ B) := by
      iintro ⟨⟨HA, HB⟩, HC⟩
      isplitl [HC]; · iexact HC
      isplitl [HA] <;> iassumption
    have h₂ : iprop(C ∗ A ∗ B) ⊢ iprop((A ∗ B) ∗ C) := by
      iintro ⟨HC, HA, HB⟩
      isplitr [HC]
      · isplitl [HA] <;> iassumption
      · iexact HC
    exact BI.equiv_iff.mp ⟨h₁, h₂⟩
  rw [counters_eq, over_roles, turn]

/-- The payer and the payee of each role change places: a permutation of the cells. -/
def deal : Dev nD × Role ≃ Dev nD × Role :=
  Function.Involutive.toPerm (fun ck => (payee ck.2 ck.1, ck.2)) fun ck => Prod.ext (payee_payee ck.2 ck.1) rfl

/-- Every device's counters and seeds become, in one step, every device's lot. -/
theorem deal_lots :
    (bigSep Finset.univ fun c => iprop(Pipeline.ownSems0 (Ix := Unit) (Name := ℕ) (U := Ghost) (Lvl := ℕ) (Val := Elt F) (τ := τ) ownSems c
        ∗ unscopedSems0 c ∗ bigSep Finset.univ fun k => seed m (c, k)) : sProp 𝕄)
      ⊢ |={Set.univ}=> bigSep Finset.univ (lot m) := by
  have hopen : (bigSep Finset.univ fun c => iprop(Pipeline.ownSems0 (Ix := Unit) (Name := ℕ) (U := Ghost) (Lvl := ℕ) (Val := Elt F) (τ := τ) ownSems c
        ∗ unscopedSems0 c ∗ bigSep Finset.univ fun k => seed m (c, k)) : sProp 𝕄)
      ⊢ bigSep Finset.univ fun ck => iprop(semVal (cell ck) 0 ∗ seed m ck) := by
    rw [bigSep_univ_prod (fun ck => iprop(semVal (cell ck) 0 ∗ seed m ck))]
    have hone (c : Dev nD) : iprop(Pipeline.ownSems0 (Ix := Unit) (Name := ℕ) (U := Ghost) (Lvl := ℕ) (Val := Elt F) (τ := τ) ownSems c
          ∗ unscopedSems0 c ∗ bigSep Finset.univ fun k => seed m (c, k))
        ⊢ (bigSep Finset.univ fun k => iprop(semVal (cell (c, k)) 0 ∗ seed m (c, k)) : sProp 𝕄) := by
      rw [bigSep_sep', ← counters]
      iintro ⟨H1, H2, H3⟩
      isplitr [H3]
      · isplitl [H1] <;> iassumption
      · iexact H3
    exact bigSep_mono fun c _ => hone c
  have halloc : (bigSep Finset.univ fun ck => iprop(semVal (cell ck) 0 ∗ roundState swapping (schedule m) (cell ck) 0) : sProp 𝕄)
      ⊢ |={Set.univ}=> bigSep Finset.univ fun ck => iprop(∃ κ : ℕ, cellInv swapping (schedule m) κ (cell ck)) :=
    (bigSep_mono fun ck _ => (Rounds.body_intro swapping (schedule m) (cell ck)).trans inv_alloc).trans (bigSep_fupd _ _)
  have hown : (bigSep Finset.univ fun c => own c)
      = iprop((bigSep Finset.univ fun ck => atPos swapping (cell ck) 0 ∅ 0) ∗ (bigSep Finset.univ fun ck => dutyTok swapping (cell ck) 0 () : sProp 𝕄)) := by
    unfold own
    rw [bigSep_sep', ← bigSep_univ_prod (fun ck => (atPos swapping (cell ck) 0 ∅ 0 : sProp 𝕄)),
      ← bigSep_univ_prod (fun ck : Dev nD × Role => (dutyTok swapping (cell (payee ck.2 ck.1, ck.2)) 0 () : sProp 𝕄)),
      bigSep_univ_equiv deal (fun ck => (dutyTok swapping (cell ck) 0 () : sProp 𝕄))]
    rfl
  iintro H
  ihave H := hopen $$ H
  unfold seed
  simp only [bigSep_sep']
  icases H with ⟨Hv, Hst, ⟨Hat, #Hr⟩, Htok⟩
  imod halloc $$ [Hv Hst] with Hinv
  · rw [bigSep_sep']; isplitl [Hv] <;> iassumption
  ihave Hinv := (BI.bigSep_exists_pi Finset.univ (fun (ck : Dev nD × Role) (κ : ℕ) => (cellInv swapping (schedule m) κ (cell ck) : sProp 𝕄))) $$ Hinv
  icases Hinv with ⟨%K, #Hinv⟩
  imodintro
  iapply (bigSep_with_persistent (R := known m K) (Φ := fun c => own c) fun c _ => show iprop(known m K ∗ own c) ⊢ lot m c from by
    unfold lot; iintro H; iexists K; iexact H)
  isplitr
  · unfold known; isplitl; · iexact Hinv
    iexact Hr
  · rw [hown]; isplitl [Hat] <;> iassumption

/-! ## The sides of the launch theorem -/

theorem share_full (c : Dev nD) (w : Fin cfg0.W) : (dats m 0 c).share w = fullShare := by unfold Dat.share; split <;> rfl

/-- The program's start gives a device its start. -/
theorem start_intro (c : Dev nD) :
    iprop(Pipeline.unscopedRestP Pipeline.Prefetch.none cfg0.spec c (fun b => m ((c : Thread nD τ).loc b)) ∗ levAts levelled level
        ∗ Pipeline.launchCred dues c ∗ prngReg c (ρ c) ∗ lot m c)
      ⊢ |={Set.univ}=> iprop(start m c ∗ emp) := by
  iintro ⟨-, Hlev, Hcr, -, Hlot⟩
  ihave Hcr := (dealt (F := F) c) $$ Hcr
  imodintro
  unfold start
  isplitl
  · isplitl [Hlot]; · iexact Hlot
    isplitl [Hcr] <;> iassumption
  · iempintro

/-- The region's scratch buffers complete what the body is given, -/
theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = atStart m c from rfl, scopedRest0_eq]
  unfold atStart anyOf
  simp only [held_eq]
  iintro ⟨Hs, -, Hr⟩
  isplitl [Hs] <;> iassumption

/-- and what it leaves gives them back with the counters. -/
theorem leave (c : Dev nD) :
    (dats m 0 c).Φ (Fin.last cfg0.N) ⊢ iprop(unscopedSems0 c ∗ Pipeline.ownSems0 ownSems c ∗ Pipeline.scopedRest cfg0.spec c) := by
  rw [show (dats m 0 c).Φ (Fin.last cfg0.N) = atEnd c from rfl, scopedRest0_eq]
  unfold atEnd anyOf
  rw [← counters]
  simp only [held_eq]
  iintro ⟨Hs, Ho, Hu⟩
  isplitl [Hu]; · iexact Hu
  isplitl [Ho] <;> iassumption

/-- The staging copies' waits come before everything a device owes. -/
theorem staging_waits (c : Dev nD) : (levAts levelled level : sProp 𝕄) ⊢ Pipeline.cellsWaits cfgs (dats m) () 0 c :=
  Pipeline.cellsWaits_intro cfgs (dats m) () 0 c fun w s t => by
    have hs : rank (.dma (((cfgs 0).win w).sem s)) < 1 := by fin_cases w <;> fin_cases s <;> decide
    rcases t with ⟨_ | _, ht⟩
    · exact mayWait_dues c _ hs
    · show _ ⊢ MayWait _ _ () 0
      rw [MayWait_zero]; iintro -; iempintro

/-! ## The run -/

/-- What the windows' arrays of a device hold at the end. -/
def final (c : Dev nD) (w : Fin cfg0.W) : Buf (Elt F) ((cfg0.win w).arr.view.loc (c : Thread nD τ)) := (dats m 0 c).arrAt w cfg0.N

set_option maxRecDepth 8000 in
/-- From any memory with all counters at zero, over any float values, every run of the kernel ends with each device's
    arrays at `final` and every counter at zero. -/
theorem run_main : θ_run defs (onTc (τ := τ) (main (F := F))) ⟨m, fun _ => 0, ρ⟩
    (fun r => (∀ (c : Dev nD) (w : Fin cfg0.W), r.2.mem ((cfg0.win w).arr.view.loc (c : Thread nD τ)) = final m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) staging defs₀ Variants.none m ρ main
    (hmain := fun _ => rfl)
    (hbody := body_obligation m) (hne := block_pos0) (harr := arr_whole0) (hstage := stage_whole0) (hshare := share_full m)
    (hdistinct := winFacts0.arr_inj)
    (O₀ := dues) (howed₀ := fun _ => rfl) (howedN := fun _ => rfl)
    (L := levelled) (lv := level) (hL := levelled_other) (hwaits := staging_waits m)
    (G := fun c => bigSep Finset.univ fun k => seed m (c, k)) (G' := lot m) (u₀ := ghost₀)
    (hu₀ := by
      unfold ghost₀
      iintro Hu
      ihave H := (ownU_pair _ _) $$ Hu
      icases H with ⟨HP, HX⟩
      imod (sow m) $$ HX with HG
      imodintro
      isplitl [HP] <;> iassumption)
    (hglob := deal_lots m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The array of `x` ends as it was. -/
theorem final_x (c : Dev nD) : final m c (0 : Fin 2) = m ((c : Thread nD τ).loc main_arg0) := (dats m 0 c).arrAt_in (0 : Fin 2) rfl _

end Cert.TopK

end
-- ==== Proof.Select.lean ====
module

public import Mathlib.Data.Fintype.BigOperators
public import Mathlib.Algebra.BigOperators.Fin
public import Mathlib.Data.Fintype.Sum
public import Mathlib.Logic.Equiv.Fin.Basic
public import Mathlib.Order.BoundedOrder.Basic

/-! Ranking by counting, over any linear order with a least element.

A list holds the greatest entries of a row, greatest first, exactly when its `i`-th entry is at least
`t` precisely if more than `i` entries of the row are. Stated so, the entries' ties and positions need
not be spoken of. -/

@[expose] public section

namespace Cert.TopK

variable {α : Type*} [LinearOrder α] [OrderBot α]

/-- How many entries of the row `f` are at least `t`. -/
def count {n : ℕ} (f : Fin n → α) (t : α) : ℕ := (Finset.univ.filter fun j => t ≤ f j).card

/-- One round of selection: `v` is a greatest entry of the row `f`, and `f'` is the row with that one
entry replaced by the least value. -/
def Peels {n : ℕ} (f : Fin n → α) (v : α) (f' : Fin n → α) : Prop :=
  ∃ j, (∀ i, f i ≤ f j) ∧ v = f j ∧ f' = Function.update f j ⊥

/-- The list `v` holds the `k` greatest entries of the row `f`, greatest first, as far as values above
the least one tell. -/
def Ranks {k n : ℕ} (v : Fin k → α) (f : Fin n → α) : Prop :=
  ∀ t, t ≠ ⊥ → ∀ i : Fin k, t ≤ v i ↔ i.val + 1 ≤ count f t

/-- Of the numbers below `k`, as many are below `m` as the smaller of the two says. -/
theorem card_below (k m : ℕ) : (Finset.univ.filter fun i : Fin k => i.val < m).card = min k m := by
  rw [Finset.card_filter, Fin.sum_univ_eq_sum_range (fun i => if i < m then 1 else 0) k,
    ← Finset.card_filter]
  have : (Finset.range k).filter (· < m) = Finset.range (min k m) := by
    ext i
    simp
  rw [this, Finset.card_range]

/-- The entry taken in a round is at least `t` exactly when some entry of the row is. -/
theorem Peels.le_iff {n : ℕ} {f f' : Fin n → α} {v : α} (h : Peels f v f') (t : α) :
    t ≤ v ↔ 1 ≤ count f t := by
  obtain ⟨j, hmax, rfl, -⟩ := h
  rw [count, Finset.one_le_card]
  exact ⟨fun ht => ⟨j, by simpa using ht⟩,
    fun ⟨i, hi⟩ => le_trans (by simpa using hi) (hmax i)⟩

/-- A round lowers the count by one, where there is something to count. -/
theorem Peels.count_next {n : ℕ} {f f' : Fin n → α} {v : α} (h : Peels f v f') {t : α} (ht : t ≠ ⊥) :
    count f' t = count f t - 1 := by
  obtain ⟨j, hmax, -, rfl⟩ := h
  have hset : (Finset.univ.filter fun i => t ≤ Function.update f j ⊥ i)
      = (Finset.univ.filter fun i => t ≤ f i).erase j := by
    ext i
    by_cases hij : i = j
    · subst hij
      simp [ht]
    · simp [hij]
  unfold count
  rw [hset]
  by_cases hj : t ≤ f j
  · exact Finset.card_erase_of_mem (by simpa using hj)
  · have hnone : (Finset.univ.filter fun i => t ≤ f i) = ∅ :=
      Finset.filter_eq_empty_iff.mpr fun i _ hi => hj (hi.trans (hmax i))
    rw [hnone]
    simp

/-- `k` rounds from a row take its `k` greatest entries, greatest first. -/
theorem ranks_of_rounds {k n : ℕ} (row : ℕ → Fin n → α) (v : Fin k → α)
    (h : ∀ i : Fin k, Peels (row i) (v i) (row (i + 1))) : Ranks v (row 0) := by
  intro t ht
  have left : ∀ i : ℕ, i ≤ k → count (row i) t = count (row 0) t - i := by
    intro i
    induction i with
    | zero => intro _; rfl
    | succ i ih =>
      intro hi
      rw [(h ⟨i, hi⟩).count_next ht, ih (Nat.le_of_succ_le hi)]
      omega
  intro i
  rw [(h i).le_iff, left i i.isLt.le]
  omega

/-- A ranked list of length `k` has as many entries from `t` up as the row has, but at most `k`. -/
theorem Ranks.count_eq {k n : ℕ} {v : Fin k → α} {f : Fin n → α} (h : Ranks v f) {t : α} (ht : t ≠ ⊥) :
    count v t = min k (count f t) := by
  have hset : (Finset.univ.filter fun i => t ≤ v i)
      = Finset.univ.filter fun i : Fin k => i.val < count f t := by
    ext i
    simpa [Nat.lt_iff_add_one_le] using h t ht i
  unfold count
  rw [hset, card_below]
  rfl

/-- Rows whose counts agree have the same ranked list. -/
theorem Ranks.unique {k n m : ℕ} {v w : Fin k → α} {f : Fin n → α} {g : Fin m → α} (hv : Ranks v f)
    (hw : Ranks w g) (hfg : ∀ t, count f t = count g t) : v = w := by
  funext i
  refine eq_of_forall_le_iff fun t => ?_
  by_cases ht : t = ⊥
  · subst ht
    simp
  · rw [hv t ht, hw t ht, hfg t]

/-- The count over a row made of two parts is the sum of the parts' counts. -/
theorem count_parts {n a b : ℕ} (e : Fin a ⊕ Fin b ≃ Fin n) (f : Fin n → α) (t : α) :
    count f t = count (fun i => f (e (.inl i))) t + count (fun i => f (e (.inr i))) t := by
  unfold count
  simp only [Finset.card_filter]
  rw [← e.sum_comp, Fintype.sum_sum_type]

/-- Ranking the two parts of a row, then ranking the two lists put side by side, ranks the row. -/
theorem Ranks.merge {k n a b : ℕ} {v w u : Fin k → α} {f : Fin a → α} {g : Fin b → α}
    {x : Fin n → α} {y : Fin (k + k) → α} (hv : Ranks v f) (hw : Ranks w g) (hu : Ranks u y)
    (hy : ∀ t, count y t = count v t + count w t)
    (hx : ∀ t, count x t = count f t + count g t) : Ranks u x := by
  intro t ht i
  rw [hu t ht, hy, hx, hv.count_eq ht, hw.count_eq ht]
  omega

/-- The first `k` entries of a row arranged in descending order rank it. -/
theorem ranks_of_sorted {k n : ℕ} (hk : k ≤ n) (f : Fin n → α) (σ : Fin n → Fin n)
    (hb : Function.Bijective σ) (hσ : ∀ i j, i < j → f (σ j) ≤ f (σ i)) : Ranks (fun i : Fin k => f (σ (i.castLE hk))) f := by
  intro t _ i
  have hcount : count f t = count (fun j => f (σ j)) t := by
    unfold count
    simp only [Finset.card_filter]
    exact (hb.sum_comp fun j => if t ≤ f j then 1 else 0).symm
  have anti : ∀ i j, i ≤ j → f (σ j) ≤ f (σ i) := fun i j hij =>
    hij.eq_or_lt.elim (fun e => e ▸ le_rfl) (hσ i j)
  rw [hcount]
  constructor
  · intro hi
    have hsub : (Finset.univ.filter fun j : Fin n => j.val < i.val + 1)
        ⊆ Finset.univ.filter fun j => t ≤ f (σ j) := by
      intro j hj
      simp only [Finset.mem_filter, Finset.mem_univ, true_and] at hj ⊢
      exact hi.trans (anti _ _ (Fin.le_def.mpr (by simpa using Nat.le_of_lt_succ hj)))
    have := Finset.card_le_card hsub
    rw [card_below] at this
    have hik := i.isLt
    change i.val + 1 ≤ (Finset.univ.filter fun j => t ≤ f (σ j)).card
    omega
  · intro hi
    by_contra hlt
    have hsub : (Finset.univ.filter fun j => t ≤ f (σ j))
        ⊆ Finset.univ.filter fun j : Fin n => j.val < i.val := by
      intro j hj
      simp only [Finset.mem_filter, Finset.mem_univ, true_and] at hj ⊢
      by_contra hle
      exact hlt (hj.trans (anti _ _ (Fin.le_def.mpr (by simpa using hle))))
    have := Finset.card_le_card hsub
    rw [card_below] at this
    change i.val + 1 ≤ (Finset.univ.filter fun j => t ≤ f (σ j)).card at hi
    omega

end Cert.TopK
-- ==== Proof.Payload.lean ====
/-
What the selections of Compute.lean are in the exact reading: row by row, the eight columns hold the eight
greatest entries, greatest first. One round of the kernel's selection is stated once, over rows of any width.
-/
module

public import proofs.«01_k».proof.Proof.Compute
public import proofs.«01_k».proof.Proof.Select
public import Idealize.ShloMosaic.Lib.Pointwise
public import Idealize.ShloMosaic.Lib.WordCmp

@[expose] public section

noncomputable section

namespace Cert.TopK

open Cert.KernelIdeal Cert.KernelIdeal.Gen
open Idealize.ShloMosaic

variable {F : FTy → Type} [FloatOps F] {n : ℕ}

/-- A block of 256 rows of `n` entries. -/
abbrev rows (n : ℕ) : Shape := ⟨2, ![256, n]⟩

/-- What a round over rows of `n` entries asks of the shapes. -/
structure Fits (n : ℕ) : Prop where
  small : n < 2 ^ 31
  cols : (rows n).Iotas .tc 32 [1]
  red : (rows n).Reduces [1] S256
  spread : S256x1.Broadcasts (rows n)

theorem fits1024 : Fits 1024 :=
  ⟨by decide, iota_S256x1024_d1_w32, reduces_S256x1024_S256, broadcasts_S256x1_S256x1024⟩

theorem fits16 : Fits 16 :=
  ⟨by decide, iota_S256x16_d1_w32, reduces_S256x16_S256, broadcasts_S256x1_S256x16⟩

/-- Each row's greatest entry, as a column. -/
def greatest (h : Fits n) (v : FVec F (rows n) .f32) : FVec F S256x1 .f32 :=
  shapeCast S256x1 (multiReduction .maximumf [1] S256 v 0xFF800000#32 h.red (.inl rfl) rfl) shapeCasts_S256_S256x1

/-- Each row's first position at which its greatest entry stands, as a column. -/
def place (h : Fits n) (v : FVec F (rows n) .f32) : IVec S256x1 32 :=
  shapeCast S256x1
    (multiReductionI .minsi [1] S256
      (select (cmpf .oeq v (broadcastTo (rows n) (greatest h v) h.spread)) (iota .tc (rows n) 32 [1] h.cols)
        (broadcast (rows n) (BitVec.ofNat 32 n)))
      2147483647#32 h.red rfl)
    shapeCasts_S256_S256x1

/-- The rows with the entry at that position replaced by −∞. -/
def without (h : Fits n) (v : FVec F (rows n) .f32) : FVec F (rows n) .f32 :=
  select (cmpi .eq (iota .tc (rows n) 32 [1] h.cols) (broadcastTo (rows n) (place h v) h.spread))
    (broadcast (rows n) (Scalar.ofBits .f32 0xFF800000#32)) v

/-- The rows after `i` rounds. -/
def after (h : Fits n) (v : FVec F (rows n) .f32) (i : ℕ) : FVec F (rows n) .f32 := (without h)^[i] v

/-- Eight rounds over rows of `n` entries: the greatest entries found, side by side. -/
def eight (h : Fits n) (v : FVec F (rows n) .f32) : FVec F S256x8 .f32 :=
  concatenate S256x8 1
    (List.ofFn fun i : Fin 8 => (⟨S256x1, greatest h (after h v i)⟩ : (s : Shape) × (s.Idx → F .f32)))
    concatenates_S256x1_S256x1_S256x1_S256x1_S256x1_S256x1_S256x1_S256x1_S256x8_d1

/-- The eight rounds with each round's rows written from those of the round before. -/
theorem eight_eq (h : Fits n) (v v₁ v₂ v₃ v₄ v₅ v₆ v₇ : FVec F (rows n) .f32) (h₁ : v₁ = without h v)
    (h₂ : v₂ = without h v₁) (h₃ : v₃ = without h v₂) (h₄ : v₄ = without h v₃) (h₅ : v₅ = without h v₄)
    (h₆ : v₆ = without h v₅) (h₇ : v₇ = without h v₆) :
    eight h v = concatenate S256x8 1 [⟨S256x1, greatest h v⟩, ⟨S256x1, greatest h v₁⟩, ⟨S256x1, greatest h v₂⟩,
      ⟨S256x1, greatest h v₃⟩, ⟨S256x1, greatest h v₄⟩, ⟨S256x1, greatest h v₅⟩, ⟨S256x1, greatest h v₆⟩,
      ⟨S256x1, greatest h v₇⟩]
      concatenates_S256x1_S256x1_S256x1_S256x1_S256x1_S256x1_S256x1_S256x1_S256x8_d1 := by
  subst h₁ h₂ h₃ h₄ h₅ h₆ h₇
  rfl

/-- The first two rounds of the first stage, over the widened block. -/
theorem first_rounds (x : Vec F S256x1024 .bf16) :
    k0_pay3 x = greatest fits1024 (k0_pay2 x)
      ∧ k0_pay4 x = without fits1024 (k0_pay2 x)
      ∧ k0_pay5 x = greatest fits1024 (k0_pay4 x)
      ∧ k0_pay6 x = without fits1024 (k0_pay4 x)
      ∧ k0_pay7 x = greatest fits1024 (k0_pay6 x)
      ∧ k0_pay8 x = broadcastTo S256x1024 (greatest fits1024 (k0_pay6 x)) broadcasts_S256x1_S256x1024 :=
  ⟨rfl, rfl, rfl, rfl, rfl, rfl⟩

/-- Rounds three to six of the first stage, from the rows `w` the second round leaves. -/
theorem middle_rounds (w b : FVec F S256x1024 .f32)
    (hb : b = broadcastTo S256x1024 (greatest fits1024 w) broadcasts_S256x1_S256x1024) :
    k0_pay9 cols1024 w b = without fits1024 w
      ∧ k0_pay10 cols1024 w b = greatest fits1024 (k0_pay9 cols1024 w b)
      ∧ k0_pay11 cols1024 w b = without fits1024 (k0_pay9 cols1024 w b)
      ∧ k0_pay12 cols1024 w b = greatest fits1024 (k0_pay11 cols1024 w b)
      ∧ k0_pay13 cols1024 w b = without fits1024 (k0_pay11 cols1024 w b)
      ∧ k0_pay14 cols1024 w b = greatest fits1024 (k0_pay13 cols1024 w b)
      ∧ k0_pay15 cols1024 w b = without fits1024 (k0_pay13 cols1024 w b) := by
  subst hb
  exact ⟨rfl, rfl, rfl, rfl, rfl, rfl, rfl⟩

/-- The last two rounds of the first stage, from the rows `w` the sixth round leaves. -/
theorem last_rounds (w : FVec F S256x1024 .f32) (a₀ a₁ a₂ a₃ a₄ a₅ : FVec F S256x1 .f32) :
    k0_pay16 cols1024 a₀ a₁ a₂ a₃ a₄ a₅ w
      = concatenate S256x8 1 [⟨S256x1, a₀⟩, ⟨S256x1, a₁⟩, ⟨S256x1, a₂⟩, ⟨S256x1, a₃⟩, ⟨S256x1, a₄⟩, ⟨S256x1, a₅⟩,
          ⟨S256x1, greatest fits1024 w⟩, ⟨S256x1, greatest fits1024 (without fits1024 w)⟩]
          concatenates_S256x1_S256x1_S256x1_S256x1_S256x1_S256x1_S256x1_S256x1_S256x8_d1 := by
  have same (y : FVec F S256x8 .f32) : shapeCast S256x8 y shapeCasts_S256x8_S256x8 = y := shapeCast_self y _
  refine Eq.trans ?_ (same _)
  rfl

/-- A device's candidates are the eight rounds over its block, widened. -/
theorem candidates_eq (x : Vec F S256x1024 .bf16) : candidates x = eight fits1024 (k0_pay2 x) := by
  obtain ⟨h3, h4, h5, h6, h7, h8⟩ := first_rounds x
  obtain ⟨h9, h10, h11, h12, h13, h14, h15⟩ := middle_rounds (k0_pay6 x) (k0_pay8 x) h8
  unfold candidates
  rw [last_rounds, h3, h5, h7, h10, h12, h14]
  exact (eight_eq fits1024 _ _ _ _ _ _ _ _ h4 h6 h9 h11 h13 h15 rfl).symm

/-- A device's result is the eight rounds over its own and its peer's candidates, side by side. -/
theorem merged_eq (a b : Vec F S256x8 .f32) : merged a b = eight fits16 (k0_pay17 a b) := rfl

/-- In the exact reading a block widened has the same entries. -/
theorem widened (x : Vec Ideal S256x1024 .bf16) (j : S256x1024.Idx) : k0_pay2 (F := Ideal) x j = x j := by
  unfold k0_pay2
  rw [shapeCast_self]
  rfl

/-- The row `r` of a block. -/
abbrev row {m : ℕ} (v : FVec Ideal (⟨2, ![256, m]⟩ : Shape) .f32) (r : Fin 256) : Fin m → EReal := fun j => v (ix2 r j)

/-- The word with which a round overwrites an entry reads as −∞, the least value. -/
theorem floor_eq : FloatOps.ofBits (F := Ideal) .f32 0xFF800000#32 = (⊥ : EReal) := by
  simp [FloatOps.ofBits, Ideal.ofBits, Ideal.ieee]

/-- A row's greatest entry is the greatest of its entries. -/
theorem greatest_apply (h : Fits n) (v : FVec Ideal (rows n) .f32) (r : Fin 256) :
    greatest h v (ix2 r 0) = (Finset.univ : Finset (Fin n)).sup (row v r) := by
  unfold greatest
  pointwise
  rw [show Ideal.ofBits FTy.f32 4286578688#32 = (⊥ : EReal) from floor_eq]
  rfl

/-- The least of some words, taken with a further word, is one of them, and not above any. -/
theorem least_word {ι : Type*} [DecidableEq ι] (b : BitVec 32) (g : ι → BitVec 32) (s : Finset ι) :
    (s.fold IntOp.minsi b g = b ∨ ∃ j ∈ s, s.fold IntOp.minsi b g = g j)
      ∧ ∀ j ∈ s, (s.fold IntOp.minsi b g).toInt ≤ (g j).toInt := by
  induction s using Finset.induction_on with
  | empty => simp
  | insert a s ha ih =>
    rw [Finset.fold_insert ha]
    unfold IntOp.minsi
    simp only [Finset.mem_insert, BitVec.slt, decide_eq_true_eq]
    obtain ⟨hone, hall⟩ := ih
    unfold IntOp.minsi at hone hall
    simp only [BitVec.slt, decide_eq_true_eq] at hone hall
    split
    · exact ⟨.inr ⟨a, .inl rfl, rfl⟩, fun j hj => hj.elim (fun e => e ▸ le_rfl)
        fun hj => le_trans (by omega) (hall j hj)⟩
    · refine ⟨hone.imp_right fun ⟨j, hj, e⟩ => ⟨j, .inr hj, e⟩, fun j hj => hj.elim (fun e => ?_) (hall j)⟩
      subst e
      omega

/-- The position a round finds is that of a greatest entry of the row. -/
theorem place_apply (h : Fits n) (hn : 0 < n) (v : FVec Ideal (rows n) .f32) (r : Fin 256) :
    ∃ j : Fin n, row v r j = greatest h v (ix2 r 0) ∧ place h v (ix2 r 0) = BitVec.ofNat 32 j.val := by
  have : Nonempty (Fin n) := ⟨⟨0, hn⟩⟩
  obtain ⟨j, -, hj⟩ := Finset.exists_mem_eq_sup (Finset.univ : Finset (Fin n)) Finset.univ_nonempty (row v r)
  rw [← greatest_apply h v r] at hj
  have hp : place h v (ix2 r 0) = (Finset.univ : Finset (Fin n)).fold IntOp.minsi 2147483647#32 fun k =>
      if row v r k = greatest h v (ix2 r 0) then BitVec.ofNat 32 k.val else BitVec.ofNat 32 n := by
    unfold place
    pointwise
  obtain ⟨hone, hall⟩ := least_word 2147483647#32
    (fun k : Fin n => if row v r k = greatest h v (ix2 r 0) then BitVec.ofNat 32 k.val else BitVec.ofNat 32 n)
    Finset.univ
  rw [← hp] at hone hall
  have hsmall := h.small
  have word (k : ℕ) (hk : k ≤ n) : (BitVec.ofNat 32 k).toInt = k := WordCmp.toInt_ofNat_of_lt (by omega)
  have hle : (place h v (ix2 r 0)).toInt ≤ j.val := by
    have := hall j (Finset.mem_univ j)
    rwa [if_pos hj.symm, word j.val j.isLt.le] at this
  have hjn := j.isLt
  rcases hone with e | ⟨k, -, e⟩
  · rw [e] at hle
    have : (2147483647#32).toInt = 2147483647 := by decide
    omega
  · by_cases hk : row v r k = greatest h v (ix2 r 0)
    · exact ⟨k, hk, by rw [e, if_pos hk]⟩
    · rw [e, if_neg hk, word n le_rfl] at hle
      omega

/-- One round takes a greatest entry of each row and leaves the row with that entry replaced by −∞. -/
theorem peels (h : Fits n) (hn : 0 < n) (v : FVec Ideal (rows n) .f32) (r : Fin 256) :
    Peels (row v r) (greatest h v (ix2 r 0)) (row (without h v) r) := by
  obtain ⟨j, hj, hp⟩ := place_apply h hn v r
  refine ⟨j, fun i => ?_, hj.symm, ?_⟩
  · rw [hj, greatest_apply]
    exact Finset.le_sup (f := row v r) (Finset.mem_univ i)
  · funext k
    have hk : without h v (ix2 r k)
        = if BitVec.ofNat 32 k.val = place h v (ix2 r 0) then (⊥ : EReal) else v (ix2 r k) := by
      unfold without
      rw [← floor_eq]
      pointwise
      rw [WordCmp.cmpi_eq_eq, WordCmp.select_ofBool]
      simp only [decide_eq_true_eq]
    have := h.small
    have := k.isLt
    have := j.isLt
    have heq : BitVec.ofNat 32 k.val = BitVec.ofNat 32 j.val ↔ k = j := by
      rw [WordCmp.ofNat_eq_ofNat_iff (by omega) (by omega), Fin.ext_iff]
    rw [Function.update_apply, show row (without h v) r k = without h v (ix2 r k) from rfl, hk, hp]
    simp only [heq]

/-- Eight rounds rank each row: they hold its eight greatest entries, greatest first. -/
theorem ranks_eight (h : Fits n) (hn : 0 < n) (v : FVec Ideal (rows n) .f32) (r : Fin 256) :
    Ranks (row (eight h v) r) (row v r) := by
  have hcol : row (eight h v) r = fun i : Fin 8 => greatest h (after h v i) (ix2 r 0) := by
    funext i
    exact concatenate_ofFn_unit_apply (t := S256x8) (s₁ := S256x1) 1 (fun i : Fin 8 => greatest h (after h v i)) _ rfl rfl
      (ix2 r i) i rfl (ix2 r 0) fun b hb => by
        match b with
        | ⟨0, _⟩ => rfl
        | ⟨1, _⟩ => exact absurd rfl hb
  rw [hcol]
  refine ranks_of_rounds (fun i => row (after h v i) r) _ fun i => ?_
  show Peels _ _ (row (after h v (i.val + 1)) r)
  rw [show after h v (i.val + 1) = without h (after h v i.val) from Function.iterate_succ_apply' _ _ _]
  exact peels h hn _ r

/-- A device's candidates rank each row of its block. -/
theorem ranks_candidates (x : Vec Ideal S256x1024 .bf16) (r : Fin 256) :
    Ranks (row (candidates (F := Ideal) x) r) (fun j : Fin 1024 => (x (ix2 r j) : EReal)) := by
  rw [candidates_eq]
  have e : (fun j : Fin 1024 => (x (ix2 r j) : EReal)) = row (k0_pay2 (F := Ideal) x) r :=
    funext fun j => (widened x _).symm
  rw [e]
  exact ranks_eight fits1024 (by decide) _ r

/-- The count over two sets of candidates side by side is the sum of the two counts. -/
theorem count_pair (a b : Vec Ideal S256x8 .f32) (r : Fin 256) (t : EReal) :
    count (row (k0_pay17 (F := Ideal) a b) r) t = count (row (m := 8) a r) t + count (row (m := 8) b r) t := by
  rw [count_parts (finSumFinEquiv (m := 8) (n := 8)) (row (k0_pay17 (F := Ideal) a b) r) t]
  have hl : (fun i => row (k0_pay17 (F := Ideal) a b) r (finSumFinEquiv (m := 8) (n := 8) (.inl i))) = row (m := 8) a r := by
    funext i
    refine concatenate_pair_apply_left (t := S256x16) 1 a b concatenates_S256x8_S256x8_S256x16_d1 _ rfl (ix2 r i) fun d => ?_
    match d with
    | ⟨0, _⟩ => rfl
    | ⟨1, _⟩ => rfl
  have hr : (fun i => row (k0_pay17 (F := Ideal) a b) r (finSumFinEquiv (m := 8) (n := 8) (.inr i))) = row (m := 8) b r := by
    funext i
    refine concatenate_pair_apply_right (t := S256x16) 1 a b concatenates_S256x8_S256x8_S256x16_d1 _ rfl rfl (ix2 r i) (fun d hd => ?_) ?_
    · match d with
      | ⟨0, _⟩ => rfl
      | ⟨1, _⟩ => exact absurd rfl hd
    · exact Nat.add_comm _ _
  rw [hl, hr]

/-- The result made of the candidates of two blocks ranks each row of the two blocks taken together. -/
theorem ranks_merged (x y : Vec Ideal S256x1024 .bf16) (r : Fin 256) {m : ℕ} (z : Fin m → EReal)
    (hz : ∀ t, count z t = count (fun j : Fin 1024 => (x (ix2 r j) : EReal)) t
      + count (fun j : Fin 1024 => (y (ix2 r j) : EReal)) t) :
    Ranks (row (merged (F := Ideal) (candidates x) (candidates y)) r) z := by
  rw [merged_eq]
  exact (ranks_candidates x r).merge (ranks_candidates y r) (ranks_eight fits16 (by decide) _ r)
    (count_pair _ _ r) hz

end Cert.TopK

end
-- ==== Proof.RefValue.lean ====
/-
What the reference computes, in the exact reading: row by row, the positions its sort puts first, and the entries
standing there. They are the row's eight greatest entries, greatest first.
-/
module

public import proofs.«01_k».proof.Proof.Select
public import proofs.«01_k».proof.Proof.Gen.ReferenceIdeal.Run
public import Idealize.ShloMosaic.Lib.Pointwise
public import Idealize.ShloMosaic.Lib.SortFacts
public import Idealize.ShloMosaic.Lib.WordCmp

@[expose] public section

noncomputable section

namespace Cert.TopK.Ref

open Cert.ReferenceIdeal Cert.ReferenceIdeal.Gen
open Idealize.ShloMosaic Idealize.ShloMosaic.TcCoe Idealize.SL.Sem

variable {F : FTy → Type} [FloatOps F]

/-- The reference's argument. -/
abbrev Arg (F : FTy → Type) [FloatOps F] : Type := (⟨S256x2048, .bf16⟩ : BufTy).Contents (Elt F)

/-- Each row's column numbers, sorted by the row's negated entries. -/
def order (z : Arg F) : IVec S256x2048 32 :=
  (Host.sort2 S256x2048 1 comparator_f32_i32_d1 (Host.negf (extf .f32 z bitsLt_bf16_f32)) (iotaInDim S256x2048 32 1)).2

/-- The first eight of them. -/
def firsts (z : Arg F) : IVec S256x8 32 := extractStridedSlice S256x8 ![0, 0] (order z) slices_S256x2048_S256x8_0_0

/-- The same, a negative one counted from the row's end, with an axis of extent one behind. -/
def places (z : Arg F) : IVec S256x8x1 32 :=
  shapeCast S256x8x1
    (select (cmpi .slt (firsts z) (broadcastInDim S256x8 ![] bcast_S_S256x8 (constantI S_ 32 0#32)))
      (addi (firsts z) (broadcastInDim S256x8 ![] bcast_S_S256x8 (constantI S_ 32 2048#32))) (firsts z))
    shapeCasts_S256x8_S256x8x1

/-- Whether each lies in the row. -/
def inside (z : Arg F) : IVec S256x8 1 :=
  Host.reduce IntOp.andi
    (andi (cmpi .sge (places z) (broadcastInDim S256x8x1 ![] bcast_S_S256x8x1 (constantI S_ 32 0#32)))
      (cmpi .sle (places z) (broadcastInDim S256x8x1 ![0, 1, 2] bcast_S1x1x1_S256x8x1_0_1_2
        (broadcastInDim S1x1x1 ![2] bcast_S1_S1x1x1_2 (constantI S1 32 2047#32)))))
    (constantI S_ 1 1#1) reducesTo_S256x8x1_S256x8_d2 h_S_

/-- The entries that stand there. -/
def chosen (z : Arg F) : FVec F S256x8 .f32 :=
  select (inside z)
    (Host.gather gather_S256x2048_S256x8x1_S256x8_n_1_0_0_1_2_11 (extf .f32 z bitsLt_bf16_f32) (places z))
    (broadcastInDim S256x8 ![] bcast_S_S256x8 (constant S_ .f32 0x7FC00000#32))

/-- The reference's run: its result is the entries chosen of its argument, and its argument is unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = chosen (m ((c.tc : Thread nD τ).loc main_arg0))
      ∧ r.2.mem ((c.tc : Thread nD τ).loc main_arg0) = m ((c.tc : Thread nD τ).loc main_arg0) :=
  Value.run m ρ

/-- Row `r` of the argument. -/
abbrev row (z : Arg Ideal) (r : Fin 256) : Fin 2048 → EReal := fun j => z (ix2 r j)

theorem eight_le : 8 ≤ 2048 := by norm_num

/-- The positions of a row in the order of the sort: greater entries first. -/
def descending (f : Fin 2048 → EReal) : Fin 2048 → Fin 2048 := sortedFrom fun k k' => decide (f k' < f k)

/-- The sort's comparison of two positions: the greater entry is put before. -/
theorem before_eq (z : Arg Ideal) (r : Fin 256) (k k' : Fin 2048) (w w' : BitVec 32) :
    (comparator_f32_i32_d1 (F := Ideal)
      (Host.negf (F := Ideal) (extf (F := Ideal) .f32 z bitsLt_bf16_f32) (ix2 r k), w)
      (Host.negf (F := Ideal) (extf (F := Ideal) .f32 z bitsLt_bf16_f32) (ix2 r k'), w') == 1#1)
      = decide (row z r k' < row z r k) := by
  have plain (y c : EReal) : (if y ≠ y then c else if y = 0 then 0 else y) = y := by
    rw [if_neg (not_not.mpr rfl)]
    split
    · next h => exact h.symm
    · rfl
  unfold comparator_f32_i32_d1
  pointwise
  rw [plain, plain]
  show (BitVec.ofBool (decide (-row z r k < -row z r k')) == 1#1) = _
  rw [decide_eq_decide.mpr EReal.neg_lt_neg_iff]
  cases decide (row z r k' < row z r k) <;> rfl

/-- A sort of two matrices along their rows, read at an entry of the second. -/
theorem sort2_apply {a n : ℕ} {α β : Type} (cmp : α × β → α × β → BitVec 1) (x : (⟨2, ![a, n]⟩ : Shape).Idx → α)
    (y : (⟨2, ![a, n]⟩ : Shape).Idx → β) (r : Fin a) (i : Fin n) :
    (Host.sort2 (⟨2, ![a, n]⟩ : Shape) 1 cmp x y).2 (ix2 r i)
      = y (ix2 r (sortedFrom (fun k k' : Fin n =>
          cmp (x (ix2 r k), y (ix2 r k)) (x (ix2 r k'), y (ix2 r k')) == 1#1) i)) := by
  have along (k : Fin n) : Shape.Idx.along (s := (⟨2, ![a, n]⟩ : Shape)) (ix2 r i) (1 : Fin 2) k = ix2 r k := by
    funext d
    match d with
    | ⟨0, _⟩ => rfl
    | ⟨1, _⟩ => rfl
  rw [Host.sort2_eq_sortBy]
  show y (Shape.Idx.along (s := (⟨2, ![a, n]⟩ : Shape)) (ix2 r i) (1 : Fin 2) (sortedFrom (fun k k' : Fin n =>
    cmp (x (Shape.Idx.along (s := (⟨2, ![a, n]⟩ : Shape)) (ix2 r i) (1 : Fin 2) k),
        y (Shape.Idx.along (s := (⟨2, ![a, n]⟩ : Shape)) (ix2 r i) (1 : Fin 2) k))
      (x (Shape.Idx.along (s := (⟨2, ![a, n]⟩ : Shape)) (ix2 r i) (1 : Fin 2) k'),
        y (Shape.Idx.along (s := (⟨2, ![a, n]⟩ : Shape)) (ix2 r i) (1 : Fin 2) k')) == 1#1) i)) = _
  simp only [along]
  exact congrArg y (along _)

/-- The sorted column numbers of a row. -/
theorem order_apply (z : Arg Ideal) (r : Fin 256) (i : Fin 2048) :
    order z (ix2 r i) = BitVec.ofNat 32 (descending (row z r) i).val := by
  have e (R : Fin 2048 → Fin 2048 → Bool) (hR : ∀ k k', R k k' = decide (row z r k' < row z r k)) :
      sortedFrom R = descending (row z r) := by
    rw [funext fun k => funext (hR k), descending]
  refine (sort2_apply _ _ _ r i).trans ?_
  rw [e _ fun k k' => before_eq z r k k' _ _]
  rfl

/-- Entry `i` of the first eight positions. -/
theorem firsts_apply (z : Arg Ideal) (r : Fin 256) (i : Fin 8) :
    firsts z (ix2 r i) = BitVec.ofNat 32 (descending (row z r) (i.castLE eight_le)).val := by
  rw [← order_apply]
  unfold firsts
  refine congrArg (order z) ?_
  funext d
  match d with
  | ⟨0, _⟩ => exact Fin.ext (Nat.zero_add _)
  | ⟨1, _⟩ => exact Fin.ext (Nat.zero_add _)

/-- None of them is negative: they are the positions the gather reads. -/
theorem places_apply (z : Arg Ideal) (r : Fin 256) (i : Fin 8) :
    places z (ix3 r i 0) = BitVec.ofNat 32 (descending (row z r) (i.castLE eight_le)).val := by
  have hlt := (descending (row z r) (i.castLE eight_le)).isLt
  unfold places
  pointwise
  rw [firsts_apply, WordCmp.cmpi_slt_ofNat (b := 0) (by omega) (by omega), WordCmp.select_ofBool]
  simp

/-- Each lies in the row. -/
theorem inside_apply (z : Arg Ideal) (r : Fin 256) (i : Fin 8) : inside z (ix2 r i) = 1#1 := by
  have hlt := (descending (row z r) (i.castLE eight_le)).isLt
  unfold inside
  pointwise
  have e : (fun x : Fin 1 => IntOp.andi (IntOp.cmpi CmpIPredicate.sge (places z (ix3 r i x)) 0#32)
      (IntOp.cmpi CmpIPredicate.sle (places z (ix3 r i x)) 2047#32)) = fun _ => 1#1 := by
    funext x
    rw [Subsingleton.elim x 0, places_apply, WordCmp.cmpi_sge_ofNat (b := 0) (by omega) (by omega),
      WordCmp.cmpi_sle_ofNat (b := 2047) (by omega) (by omega), decide_eq_true (Nat.zero_le _),
      decide_eq_true (Nat.le_of_lt_succ hlt)]
    rfl
  rw [e]
  rfl

/-- The gather reads, of row `r`, the entry at the given position. -/
theorem gather_apply (x : FVec Ideal S256x2048 .f32) (p : IVec S256x8x1 32) (r : Fin 256) (i : Fin 8) (k : Fin 2048)
    (hp : p (ix3 r i 0) = BitVec.ofNat 32 k.val) :
    Host.gather gather_S256x2048_S256x8x1_S256x8_n_1_0_0_1_2_11 x p (ix2 r i) = x (ix2 r k) := by
  have hsi (c) : GatherDims.siIdx gather_S256x2048_S256x8x1_S256x8_n_1_0_0_1_2_11 (ix2 r i) c = ix3 r i 0 := by
    funext d
    match d with
    | ⟨0, _⟩ => rfl
    | ⟨1, _⟩ => rfl
    | ⟨2, _⟩ => exact Subsingleton.elim (α := Fin 1) _ _
  have hk := k.isLt
  have hb₀ : (0 : Fin 2) ∈ gather_S256x2048_S256x8x1_S256x8_n_1_0_0_1_2_11.operandBatchingDims := by decide
  have ho₀ : (0 : Fin 2) ∉ gather_S256x2048_S256x8x1_S256x8_n_1_0_0_1_2_11.sKept := by decide
  have hb₁ : (1 : Fin 2) ∉ gather_S256x2048_S256x8x1_S256x8_n_1_0_0_1_2_11.operandBatchingDims := by decide
  have ho₁ : (1 : Fin 2) ∉ gather_S256x2048_S256x8x1_S256x8_n_1_0_0_1_2_11.sKept := by decide
  have hs₁ : (1 : Fin 2) ∈ gather_S256x2048_S256x8x1_S256x8_n_1_0_0_1_2_11.startIndexMap := by decide
  unfold Host.gather
  refine congrArg x (funext fun d => Fin.ext ?_)
  match d with
  | ⟨0, _⟩ =>
    show gather_S256x2048_S256x8x1_S256x8_n_1_0_0_1_2_11.start (ix2 r i) p (0 : Fin 2)
      + gather_S256x2048_S256x8x1_S256x8_n_1_0_0_1_2_11.batchCoord (ix2 r i) (0 : Fin 2)
      + gather_S256x2048_S256x8x1_S256x8_n_1_0_0_1_2_11.offCoord (ix2 r i) (0 : Fin 2) = r.val
    rw [GatherDims.start_batching _ _ _ _ hb₀, GatherDims.offCoord_eq_zero _ _ _ ho₀]
    exact (Nat.add_zero _).trans (Nat.zero_add _)
  | ⟨1, _⟩ =>
    show gather_S256x2048_S256x8x1_S256x8_n_1_0_0_1_2_11.start (ix2 r i) p (1 : Fin 2)
      + gather_S256x2048_S256x8x1_S256x8_n_1_0_0_1_2_11.batchCoord (ix2 r i) (1 : Fin 2)
      + gather_S256x2048_S256x8x1_S256x8_n_1_0_0_1_2_11.offCoord (ix2 r i) (1 : Fin 2) = k.val
    rw [GatherDims.batchCoord_eq_zero _ _ _ hb₁, GatherDims.offCoord_eq_zero _ _ _ ho₁]
    unfold GatherDims.start
    rw [dif_pos hs₁, hsi, hp, WordCmp.toInt_ofNat_of_lt (by omega)]
    show min k.val 2047 + 0 + 0 = k.val
    omega

/-- Entry `i` of the reference's result in row `r` is the row's entry that the sort puts at place `i`. -/
theorem chosen_apply (z : Arg Ideal) (r : Fin 256) (i : Fin 8) :
    chosen z (ix2 r i) = row z r (descending (row z r) (i.castLE eight_le)) := by
  unfold chosen
  show Scalar.select (inside z (ix2 r i)) _ _ = _
  rw [inside_apply, gather_apply _ _ r i _ (places_apply z r i)]
  rfl

/-- The order of the sort is descending. -/
theorem descending_le (f : Fin 2048 → EReal) (i j : Fin 2048) (hij : i < j) :
    f (descending f j) ≤ f (descending f i) := by
  have h := sortedFrom_noInversion (fun k k' => decide (f k' < f k)) (fun k k' => decide (f k' < f k))
    (fun a b hab => decide_eq_false (not_lt.mpr (of_decide_eq_true hab).le)) (fun _ _ h => h)
    (fun a b c hab hbc => decide_eq_false (not_lt.mpr
      ((not_lt.mp (of_decide_eq_false hab)).trans (not_lt.mp (of_decide_eq_false hbc))))) i j hij
  exact not_lt.mp (of_decide_eq_false h)

/-- The reference's result ranks each row of its argument. -/
theorem ranks_chosen (z : Arg Ideal) (r : Fin 256) :
    Ranks (fun i : Fin 8 => (chosen z (ix2 r i) : EReal)) (row z r) := by
  rw [show (fun i : Fin 8 => (chosen z (ix2 r i) : EReal))
    = fun i => row z r (descending (row z r) (i.castLE eight_le)) from funext fun i => chosen_apply z r i]
  exact ranks_of_sorted eight_le (row z r) (descending (row z r)) ⟨sortedFrom_injective _, sortedFrom_surjective _⟩
    (descending_le (row z r))

end Cert.TopK.Ref

end
-- ==== Proof.Equation.lean ====
/-
The kernel's result is the reference's. Each device's block is one half of the columns of the reference's argument and
its peer's block the other half, so the device's result ranks the same rows as the reference's result does.
-/
module

public import proofs.«01_k».proof.Proof.Launch
public import proofs.«01_k».proof.Proof.Payload
public import proofs.«01_k».proof.Proof.RefValue
public import Idealize.ShloMosaic.Lib.LayoutAt
public import Idealize.ShloMosaic.Lib.Pipeline.ValueKit

@[expose] public section

noncomputable section

namespace Cert.TopK

open Cert.KernelIdeal Cert.KernelIdeal.Gen
open Idealize.ShloMosaic Idealize.ShloMosaic.TcCoe
open Idealize.ShloMosaic.Pipeline (Dat)

section Contents

variable {F : FTy → Type} [FloatOps F] (m : (ℓ : Loc nD τ sig) → Buf (Elt F) ℓ)

/-- At the end the result array of a device holds its result. -/
theorem final_result (c : Dev nD) : final m c (1 : Fin 2) = result m c :=
  (dats m 0 c).arrAt_eq_of_after_last (1 : Fin 2) t0_0 (by decide +kernel) (result m c) (fun _ => rfl)

omit [FloatOps F] in
/-- A device's block is the whole of its argument array. -/
theorem block_eq (c : Dev nD) : block m c = m ((c : Thread nD τ).loc main_arg0) := by
  funext i
  unfold block
  rw [View.read_apply]
  refine congrArg (m ((c : Thread nD τ).loc main_arg0)) ?_
  funext a
  match a with
  | ⟨0, _⟩ => exact Fin.ext (by simp; rfl)
  | ⟨1, _⟩ => exact Fin.ext (by simp; rfl)

end Contents

/-- The whole array's part on device `c`. -/
abbrev part (z : Ref.Arg Ideal) (c : Dev nD) : Vec Ideal S256x1024 .bf16 :=
  Layout.blockN ⟨2, ![256, 1024]⟩ ⟨2, ![256, 2048]⟩ (Layout.meshBlock [2, 4, 4] ![[], [0]] c) z

/-- Column `j` of half `h` of the columns. -/
def column (h : Fin 2) (j : Fin 1024) : Fin 2048 := ⟨1024 * h.val + j.val, by omega⟩

/-- The half of the columns that a device holds: the one its `x` coordinate names. -/
def half (c : Dev nD) : Fin 2 := ⟨c.val / 16, Nat.div_lt_of_lt_mul (show c.val < 16 * 2 from c.isLt)⟩

/-- A device's part is its half of the columns. -/
theorem part_apply (z : Ref.Arg Ideal) (c : Dev nD) (r : Fin 256) (j : Fin 1024) :
    part z c (ix2 r j) = z (ix2 r (column (half c) j)) := by
  have hc := c.isLt
  have hx : Layout.meshLin [2, 4, 4] c.val [0] = c.val / 16 := by revert c; decide
  rw [part, Layout.blockN_apply]
  refine congrArg z (funext fun a => Fin.ext ?_)
  match a with
  | ⟨0, _⟩ =>
    show 0 * 256 + r.val = r.val
    omega
  | ⟨1, _⟩ =>
    show Layout.meshLin [2, 4, 4] c.val [0] * 1024 + j.val = 1024 * (c.val / 16) + j.val
    rw [hx, Nat.mul_comm]

/-- A count over all the columns is the sum of those over the halves. -/
theorem count_halves (f : Fin 2048 → EReal) (t : EReal) :
    count f t = count (fun j => f (column 0 j)) t + count (fun j => f (column 1 j)) t := by
  rw [count_parts (finSumFinEquiv (m := 1024) (n := 1024)) f t]
  congr 1

/-- A device and its peer hold the two halves. -/
theorem half_cases : ∀ c : Dev nD, (half c = 0 ∧ half (peer c) = 1) ∨ (half c = 1 ∧ half (peer c) = 0) := by decide

/-- If every device holds its part of an array, each device's result is the reference's result of that array. -/
theorem result_eq (m : (ℓ : Loc nD τ sig) → Buf (Elt Ideal) ℓ) (z : Ref.Arg Ideal)
    (hz : ∀ c : Dev nD, m ((c : Thread nD τ).loc main_arg0) = part z c) (c : Dev nD) :
    result m c = Ref.chosen z := by
  have hb (d : Dev nD) (r : Fin 256) (j : Fin 1024) : block m d (ix2 r j) = z (ix2 r (column (half d) j)) := by
    rw [block_eq, hz]; exact part_apply z d r j
  have hr (r : Fin 256) : row (result m c) r = fun i : Fin 8 => (Ref.chosen z (ix2 r i) : EReal) := by
    refine Ranks.unique (ranks_merged (block m c) (block m (peer c)) r (Ref.row z r) fun t => ?_)
      (Ref.ranks_chosen z r) fun _ => rfl
    simp only [hb]
    rw [count_halves]
    rcases half_cases c with ⟨h, h'⟩ | ⟨h, h'⟩ <;> rw [h, h']
    exact Nat.add_comm _ _
  funext i
  rw [eq_ix2 i]
  exact congrFun (hr (i 0)) (i 1)

end Cert.TopK

end
-- ==== Proof.lean ====
/-
The five claims. The kernel's run (Proof/Launch.lean) and the reference's (Proof/RefValue.lean) give the three
frames; that the two results are the same values is Proof/Equation.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Equation
public import Idealize.ShloMosaic.Adequacy
public import Idealize.ShloMosaic.Init

@[expose] public section

noncomputable section

namespace Cert.Proof

open Idealize.ShloMosaic Idealize.SL.Sem Cert.TopK

/-- Every run of the kernel ends, leaves its argument unchanged and every counter at zero. -/
theorem kernel_run {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩
      fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
        ∧ r.2.sem = fun _ => 0 :=
  (θ_run Cert.KernelIdeal.defs _ _).mono
    (fun _ h => ⟨fun c => (h.1 c (0 : Fin 2)).trans (final_x m c), h.2⟩) (run_main m ρ)

/-- The program and its idealization have the same body: the text of the two is the same. -/
theorem bodies_same : Cert.Kernel.defs₀ (F := Bits) = Cert.KernelIdeal.defs₀ (F := Bits) :=
  congrArg Defs.onTc (funext fun l => match l with
    | ⟨0, _⟩ => rfl
    | ⟨_ + 1, h⟩ => absurd h (Nat.not_lt.2 (Nat.le_add_left _ _)))

/-- So they have the same pipelines. -/
theorem defs_same : Cert.Kernel.defs (F := Bits) = Cert.KernelIdeal.defs (F := Bits) :=
  congrArg (Pipeline.defs (Cert.KernelIdeal.pcfgs (F := Bits))) bodies_same

/-- The kernel's frame, on words. -/
theorem kernel_frame : Cert.quiescent_Kernel := fun m ρ _ => by
  rw [defs_same]
  exact kernel_run (F := Bits) m ρ

/-- The kernel's frame, on extended reals. -/
theorem ideal_frame : Cert.quiescent_KernelIdeal := fun m ρ _ => kernel_run (F := Ideal) m ρ

/-- Every run of the reference ends and leaves its argument unchanged; it has no counters. -/
theorem reference_frame : Cert.quiescent_ReferenceIdeal := fun m ρ _ =>
  (θ_run (Cert.ReferenceIdeal.defs (F := Ideal)) _ _).mono
    (fun r h => ⟨fun c => (h c).2, sem_eq_zero_of_no_sems (by decide) r.2⟩) (Ref.run (F := Ideal) m ρ)

/-- The kernel's idealization replaces no operation. -/
theorem preserves : Cert.preserves_Kernel_KernelIdeal := trivial

/-- On extended reals, if each device is given its part of the reference's argument, every device's result is the
    reference's. -/
theorem equation : Cert.algebraic_KernelIdeal_ReferenceIdeal := fun m ρ m' ρ' _ hz =>
  ⟨Ref.chosen (m' (((0 : Dev Cert.ReferenceIdeal.nD).tc : Thread Cert.ReferenceIdeal.nD Cert.ReferenceIdeal.τ).loc
      Cert.ReferenceIdeal.main_arg0)),
    (θ_run (Cert.KernelIdeal.defs (F := Ideal)) _ _).mono
      (fun _ h c => ⟨(h.1 c (1 : Fin 2)).trans ((final_result m c).trans (result_eq m _ hz c)),
        (h.1 c (0 : Fin 2)).trans (final_x m c)⟩) (run_main (F := Ideal) m ρ),
    (θ_run (Cert.ReferenceIdeal.defs (F := Ideal)) _ _).mono (fun _ h => h 0) (Ref.run (F := Ideal) m' ρ')⟩

theorem claim : Cert.Claim := ⟨Cert.Kernel.Gen.facts, Cert.KernelIdeal.Gen.facts, Cert.ReferenceIdeal.Gen.facts,
  kernel_frame, ideal_frame, reference_frame, preserves, equation⟩

end Cert.Proof

end
